-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20480x3 : Shape := ⟨2, ![20480, 3]⟩
abbrev S20480 : Shape := ⟨1, ![20480]⟩
abbrev S3x3x16x16 : Shape := ⟨4, ![3, 3, 16, 16]⟩
abbrev S3x4x16x16 : Shape := ⟨4, ![3, 4, 16, 16]⟩
abbrev S16 : Shape := ⟨1, ![16]⟩
abbrev S1x16 : Shape := ⟨2, ![1, 16]⟩
abbrev S20x20 : Shape := ⟨2, ![20, 20]⟩
abbrev S1024x20x3 : Shape := ⟨3, ![1024, 20, 3]⟩
abbrev S1024x20 : Shape := ⟨2, ![1024, 20]⟩
abbrev S16x3x3x16 : Shape := ⟨4, ![16, 3, 3, 16]⟩
abbrev S16x144 : Shape := ⟨2, ![16, 144]⟩
abbrev S8x20x3 : Shape := ⟨3, ![8, 20, 3]⟩
abbrev S8x20 : Shape := ⟨2, ![8, 20]⟩
abbrev S8x1x20x3 : Shape := ⟨4, ![8, 1, 20, 3]⟩
abbrev S8x20x1x3 : Shape := ⟨4, ![8, 20, 1, 3]⟩
abbrev S8x20x20x3 : Shape := ⟨4, ![8, 20, 20, 3]⟩
abbrev S8x20x20 : Shape := ⟨3, ![8, 20, 20]⟩
abbrev S8x20x20x1 : Shape := ⟨4, ![8, 20, 20, 1]⟩
abbrev S1x20x20x1 : Shape := ⟨4, ![1, 20, 20, 1]⟩
abbrev S1x1x1x16 : Shape := ⟨4, ![1, 1, 1, 16]⟩
abbrev S8x20x20x16 : Shape := ⟨4, ![8, 20, 20, 16]⟩
abbrev S3200x16 : Shape := ⟨2, ![3200, 16]⟩
abbrev S3200x144 : Shape := ⟨2, ![3200, 144]⟩
abbrev S8x20x1 : Shape := ⟨3, ![8, 20, 1]⟩
abbrev S1x1x16 : Shape := ⟨3, ![1, 1, 16]⟩
abbrev S8x20x16 : Shape := ⟨3, ![8, 20, 16]⟩
abbrev S8x20x1x16 : Shape := ⟨4, ![8, 20, 1, 16]⟩
abbrev S160x16 : Shape := ⟨2, ![160, 16]⟩
abbrev S1x1x16x16 : Shape := ⟨4, ![1, 1, 16, 16]⟩
abbrev S16x16 : Shape := ⟨2, ![16, 16]⟩

abbrev nBuf : Space → Nat
  | .hbm => 22
  | .vmem => 15
  | .smem => 0
  | _ => 0

abbrev bufTy : (tb : Table) → Fin (tcTables nBuf tb) → BufTy
  | .hbm, ⟨0, _⟩ => ⟨S20480x3, .f32⟩
  | .hbm, ⟨1, _⟩ => ⟨S20480x3, .f32⟩
  | .hbm, ⟨2, _⟩ => ⟨S20480, .i32⟩
  | .hbm, ⟨3, _⟩ => ⟨S3x3x16x16, .f32⟩
  | .hbm, ⟨4, _⟩ => ⟨S3x4x16x16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S1x16, .f32⟩
  | .hbm, ⟨10, _⟩ => ⟨S20x20, .f32⟩
  | .hbm, ⟨11, _⟩ => ⟨S1024x20x3, .f32⟩
  | .hbm, ⟨12, _⟩ => ⟨S1024x20x3, .f32⟩
  | .hbm, ⟨13, _⟩ => ⟨S20480, .f32⟩
  | .hbm, ⟨14, _⟩ => ⟨S1024x20, .f32⟩
  | .hbm, ⟨15, _⟩ => ⟨S16x3x3x16, .f32⟩
  | .hbm, ⟨16, _⟩ => ⟨S16x144, .f32⟩
  | .hbm, ⟨17, _⟩ => ⟨S1x16, .f32⟩
  | .hbm, ⟨18, _⟩ => ⟨S1x16, .f32⟩
  | .hbm, ⟨19, _⟩ => ⟨S1x16, .f32⟩
  | .hbm, ⟨20, _⟩ => ⟨S1024x20x3, .f32⟩
  | .hbm, ⟨21, _⟩ => ⟨S20480x3, .f32⟩
  | .local _ .vmem, ⟨0, _⟩ => ⟨S8x20x3, .f32⟩
  | .local _ .vmem, ⟨1, _⟩ => ⟨S8x20x3, .f32⟩
  | .local _ .vmem, ⟨2, _⟩ => ⟨S8x20x3, .f32⟩
  | .local _ .vmem, ⟨3, _⟩ => ⟨S8x20x3, .f32⟩
  | .local _ .vmem, ⟨4, _⟩ => ⟨S8x20, .f32⟩
  | .local _ .vmem, ⟨5, _⟩ => ⟨S8x20, .f32⟩
  | .local _ .vmem, ⟨6, _⟩ => ⟨S16x144, .f32⟩
  | .local _ .vmem, ⟨7, _⟩ => ⟨S3x4x16x16, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S1x16, .f32⟩
  | .local _ .vmem, ⟨12, _⟩ => ⟨S20x20, .f32⟩
  | .local _ .vmem, ⟨13, _⟩ => ⟨S8x20x3, .f32⟩
  | .local _ .vmem, ⟨14, _⟩ => ⟨S8x20x3, .f32⟩
  | _, _ => ⟨S20480x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x20x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x20x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x4x16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x20x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S20480x3 : Shape := ⟨2, ![20480, 3]⟩
abbrev S20480 : Shape := ⟨1, ![20480]⟩
abbrev S3x3x16x16 : Shape := ⟨4, ![3, 3, 16, 16]⟩
abbrev S3x4x16x16 : Shape := ⟨4, ![3, 4, 16, 16]⟩
abbrev S16 : Shape := ⟨1, ![16]⟩
abbrev S380 : Shape := ⟨1, ![380]⟩
abbrev S1x380 : Shape := ⟨2, ![1, 380]⟩
abbrev S1x16 : Shape := ⟨2, ![1, 16]⟩
abbrev S1024 : Shape := ⟨1, ![1024]⟩
abbrev S_ : Shape := ⟨0, ![]⟩
abbrev S1024x1 : Shape := ⟨2, ![1024, 1]⟩
abbrev S1024x380 : Shape := ⟨2, ![1024, 380]⟩
abbrev S389120 : Shape := ⟨1, ![389120]⟩
abbrev S389120x1 : Shape := ⟨2, ![389120, 1]⟩
abbrev S389120x3 : Shape := ⟨2, ![389120, 3]⟩
abbrev S389120x16 : Shape := ⟨2, ![389120, 16]⟩
abbrev S20480x1 : Shape := ⟨2, ![20480, 1]⟩
abbrev S20480x16 : Shape := ⟨2, ![20480, 16]⟩
abbrev S20480x1x3 : Shape := ⟨3, ![20480, 1, 3]⟩
abbrev S1x16x1 : Shape := ⟨3, ![1, 16, 1]⟩
abbrev S20480x16x3 : Shape := ⟨3, ![20480, 16, 3]⟩
abbrev S1x1x16x16 : Shape := ⟨4, ![1, 1, 16, 16]⟩
abbrev S16x16 : Shape := ⟨2, ![16, 16]⟩
abbrev S389120x16x1 : Shape := ⟨3, ![389120, 16, 1]⟩
abbrev S389120x16x3 : Shape := ⟨3, ![389120, 16, 3]⟩
abbrev S389120x1x3 : Shape := ⟨3, ![389120, 1, 3]⟩
abbrev S389120x48 : Shape := ⟨2, ![389120, 48]⟩
abbrev S20480x48 : Shape := ⟨2, ![20480, 48]⟩
abbrev S16x20480x3 : Shape := ⟨3, ![16, 20480, 3]⟩
abbrev S1024x20x3 : Shape := ⟨3, ![1024, 20, 3]⟩

abbrev nBuf : Space → Nat
  | .hbm => 280
  | .vmem => 0
  | .smem => 0
  | _ => 0

abbrev hbmTy0_0 (i : Nat) : BufTy := match i % 128 with
  | 0 => ⟨S20480x3, .f32⟩
  | 1 => ⟨S20480x3, .f32⟩
  | 2 => ⟨S20480, .i32⟩
  | 3 => ⟨S3x3x16x16, .f32⟩
  | 4 => ⟨S3x4x16x16, .f32⟩
  | 5 => ⟨S16, .f32⟩
  | 6 => ⟨S16, .f32⟩
  | 7 => ⟨S16, .f32⟩
  | 8 => ⟨S380, .i32⟩
  | 9 => ⟨S1x380, .i32⟩
  | 10 => ⟨S380, .i32⟩
  | 11 => ⟨S1x380, .i32⟩
  | 12 => ⟨S16, .f32⟩
  | 13 => ⟨S1x16, .f32⟩
  | 14 => ⟨S1024, .i32⟩
  | 15 => ⟨S_, .i32⟩
  | 16 => ⟨S1024, .i32⟩
  | 17 => ⟨S1024, .i32⟩
  | 18 => ⟨S1024x1, .i32⟩
  | 19 => ⟨S1024x380, .i32⟩
  | 20 => ⟨S1024x380, .i32⟩
  | 21 => ⟨S1024x380, .i32⟩
  | 22 => ⟨S389120, .i32⟩
  | 23 => ⟨S1024x380, .i32⟩
  | 24 => ⟨S1024x380, .i32⟩
  | 25 => ⟨S1024x380, .i32⟩
  | 26 => ⟨S389120, .i32⟩
  | 27 => ⟨S_, .i32⟩
  | 28 => ⟨S389120, .i32⟩
  | 29 => ⟨S389120, .i1⟩
  | 30 => ⟨S_, .i32⟩
  | 31 => ⟨S389120, .i32⟩
  | 32 => ⟨S389120, .i32⟩
  | 33 => ⟨S389120, .i32⟩
  | 34 => ⟨S389120x1, .i32⟩
  | 35 => ⟨S389120x3, .f32⟩
  | 36 => ⟨S_, .i32⟩
  | 37 => ⟨S389120, .i32⟩
  | 38 => ⟨S389120, .i1⟩
  | 39 => ⟨S_, .i32⟩
  | 40 => ⟨S389120, .i32⟩
  | 41 => ⟨S389120, .i32⟩
  | 42 => ⟨S389120, .i32⟩
  | 43 => ⟨S389120x1, .i32⟩
  | 44 => ⟨S389120x3, .f32⟩
  | 45 => ⟨S389120x3, .f32⟩
  | 46 => ⟨S389120x3, .f32⟩
  | 47 => ⟨S_, .f32⟩
  | 48 => ⟨S389120, .f32⟩
  | 49 => ⟨S_, .f32⟩
  | 50 => ⟨S389120, .f32⟩
  | 51 => ⟨S389120, .f32⟩
  | 52 => ⟨S389120, .f32⟩
  | 53 => ⟨S389120x1, .f32⟩
  | 54 => ⟨S389120x3, .f32⟩
  | 55 => ⟨S389120x3, .f32⟩
  | 56 => ⟨S389120x1, .f32⟩
  | 57 => ⟨S389120x16, .f32⟩
  | 58 => ⟨S389120x16, .f32⟩
  | 59 => ⟨S389120x16, .f32⟩
  | 60 => ⟨S389120x16, .f32⟩
  | 61 => ⟨S389120x16, .f32⟩
  | 62 => ⟨S_, .f32⟩
  | 63 => ⟨S389120x16, .f32⟩
  | 64 => ⟨S389120x16, .f32⟩
  | 65 => ⟨S389120x16, .f32⟩
  | 66 => ⟨S20480, .f32⟩
  | 67 => ⟨S20480x1, .f32⟩
  | 68 => ⟨S1x16, .f32⟩
  | 69 => ⟨S20480x16, .f32⟩
  | 70 => ⟨S20480x16, .f32⟩
  | 71 => ⟨S20480x16, .f32⟩
  | 72 => ⟨S20480x1x3, .f32⟩
  | 73 => ⟨S1x16x1, .f32⟩
  | 74 => ⟨S20480x16x3, .f32⟩
  | 75 => ⟨S20480x16x3, .f32⟩
  | 76 => ⟨S20480x16x3, .f32⟩
  | 77 => ⟨S1x1x16x16, .f32⟩
  | 78 => ⟨S16x16, .f32⟩
  | 79 => ⟨S389120x16, .f32⟩
  | 80 => ⟨S1x1x16x16, .f32⟩
  | 81 => ⟨S16x16, .f32⟩
  | 82 => ⟨S389120x16, .f32⟩
  | 83 => ⟨S1x1x16x16, .f32⟩
  | 84 => ⟨S16x16, .f32⟩
  | 85 => ⟨S389120x16, .f32⟩
  | 86 => ⟨S_, .i32⟩
  | 87 => ⟨S389120, .i32⟩
  | 88 => ⟨S389120, .i1⟩
  | 89 => ⟨S_, .i32⟩
  | 90 => ⟨S389120, .i32⟩
  | 91 => ⟨S389120, .i32⟩
  | 92 => ⟨S389120, .i32⟩
  | 93 => ⟨S389120x1, .i32⟩
  | 94 => ⟨S389120x16, .f32⟩
  | 95 => ⟨S389120x16, .f32⟩
  | 96 => ⟨S389120x16x1, .f32⟩
  | 97 => ⟨S_, .i32⟩
  | 98 => ⟨S389120, .i32⟩
  | 99 => ⟨S389120, .i1⟩
  | 100 => ⟨S_, .i32⟩
  | 101 => ⟨S389120, .i32⟩
  | 102 => ⟨S389120, .i32⟩
  | 103 => ⟨S389120, .i32⟩
  | 104 => ⟨S389120x1, .i32⟩
  | 105 => ⟨S389120x16x3, .f32⟩
  | 106 => ⟨S389120x16x3, .f32⟩
  | 107 => ⟨S389120x16x3, .f32⟩
  | 108 => ⟨S389120x16x1, .f32⟩
  | 109 => ⟨S389120x1x3, .f32⟩
  | 110 => ⟨S389120x16x3, .f32⟩
  | 111 => ⟨S389120x16x3, .f32⟩
  | 112 => ⟨S389120x16x3, .f32⟩
  | 113 => ⟨S389120x16x3, .f32⟩
  | 114 => ⟨S_, .f32⟩
  | 115 => ⟨S20480x16, .f32⟩
  | 116 => ⟨S389120x1, .i32⟩
  | 117 => ⟨S20480x16, .f32⟩
  | 118 => ⟨S389120x48, .f32⟩
  | 119 => ⟨S_, .f32⟩
  | 120 => ⟨S20480x48, .f32⟩
  | 121 => ⟨S389120x1, .i32⟩
  | 122 => ⟨S20480x48, .f32⟩
  | 123 => ⟨S20480x16x3, .f32⟩
  | 124 => ⟨S1x1x16x16, .f32⟩
  | 125 => ⟨S16x16, .f32⟩
  | 126 => ⟨S20480x16, .f32⟩
  | 127 => ⟨S1x1x16x16, .f32⟩
  | _ => ⟨S20480x3, .f32⟩

abbrev hbmTy0_1 (i : Nat) : BufTy := match i % 128 with
  | 0 => ⟨S16x16, .f32⟩
  | 1 => ⟨S20480x16, .f32⟩
  | 2 => ⟨S20480x16, .f32⟩
  | 3 => ⟨S_, .f32⟩
  | 4 => ⟨S20480x16, .f32⟩
  | 5 => ⟨S20480x16, .f32⟩
  | 6 => ⟨S1x1x16x16, .f32⟩
  | 7 => ⟨S16x16, .f32⟩
  | 8 => ⟨S16x20480x3, .f32⟩
  | 9 => ⟨S20480x16x3, .f32⟩
  | 10 => ⟨S1x1x16x16, .f32⟩
  | 11 => ⟨S16x16, .f32⟩
  | 12 => ⟨S16x20480x3, .f32⟩
  | 13 => ⟨S20480x16x3, .f32⟩
  | 14 => ⟨S20480x16x3, .f32⟩
  | 15 => ⟨S1x1x16x16, .f32⟩
  | 16 => ⟨S16x16, .f32⟩
  | 17 => ⟨S389120x16, .f32⟩
  | 18 => ⟨S1x1x16x16, .f32⟩
  | 19 => ⟨S16x16, .f32⟩
  | 20 => ⟨S389120x16, .f32⟩
  | 21 => ⟨S1x1x16x16, .f32⟩
  | 22 => ⟨S16x16, .f32⟩
  | 23 => ⟨S389120x16, .f32⟩
  | 24 => ⟨S_, .i32⟩
  | 25 => ⟨S389120, .i32⟩
  | 26 => ⟨S389120, .i1⟩
  | 27 => ⟨S_, .i32⟩
  | 28 => ⟨S389120, .i32⟩
  | 29 => ⟨S389120, .i32⟩
  | 30 => ⟨S389120, .i32⟩
  | 31 => ⟨S389120x1, .i32⟩
  | 32 => ⟨S389120x16, .f32⟩
  | 33 => ⟨S389120x16, .f32⟩
  | 34 => ⟨S389120x16x1, .f32⟩
  | 35 => ⟨S_, .i32⟩
  | 36 => ⟨S389120, .i32⟩
  | 37 => ⟨S389120, .i1⟩
  | 38 => ⟨S_, .i32⟩
  | 39 => ⟨S389120, .i32⟩
  | 40 => ⟨S389120, .i32⟩
  | 41 => ⟨S389120, .i32⟩
  | 42 => ⟨S389120x1, .i32⟩
  | 43 => ⟨S389120x16x3, .f32⟩
  | 44 => ⟨S389120x16x3, .f32⟩
  | 45 => ⟨S389120x16x3, .f32⟩
  | 46 => ⟨S389120x16x1, .f32⟩
  | 47 => ⟨S389120x1x3, .f32⟩
  | 48 => ⟨S389120x16x3, .f32⟩
  | 49 => ⟨S389120x16x3, .f32⟩
  | 50 => ⟨S389120x16x3, .f32⟩
  | 51 => ⟨S389120x16x3, .f32⟩
  | 52 => ⟨S_, .f32⟩
  | 53 => ⟨S20480x16, .f32⟩
  | 54 => ⟨S389120x1, .i32⟩
  | 55 => ⟨S20480x16, .f32⟩
  | 56 => ⟨S389120x48, .f32⟩
  | 57 => ⟨S_, .f32⟩
  | 58 => ⟨S20480x48, .f32⟩
  | 59 => ⟨S389120x1, .i32⟩
  | 60 => ⟨S20480x48, .f32⟩
  | 61 => ⟨S20480x16x3, .f32⟩
  | 62 => ⟨S1x1x16x16, .f32⟩
  | 63 => ⟨S16x16, .f32⟩
  | 64 => ⟨S20480x16, .f32⟩
  | 65 => ⟨S1x1x16x16, .f32⟩
  | 66 => ⟨S16x16, .f32⟩
  | 67 => ⟨S20480x16, .f32⟩
  | 68 => ⟨S20480x16, .f32⟩
  | 69 => ⟨S_, .f32⟩
  | 70 => ⟨S20480x16, .f32⟩
  | 71 => ⟨S20480x16, .f32⟩
  | 72 => ⟨S1x1x16x16, .f32⟩
  | 73 => ⟨S16x16, .f32⟩
  | 74 => ⟨S16x20480x3, .f32⟩
  | 75 => ⟨S20480x16x3, .f32⟩
  | 76 => ⟨S1x1x16x16, .f32⟩
  | 77 => ⟨S16x16, .f32⟩
  | 78 => ⟨S16x20480x3, .f32⟩
  | 79 => ⟨S20480x16x3, .f32⟩
  | 80 => ⟨S20480x16x3, .f32⟩
  | 81 => ⟨S1x1x16x16, .f32⟩
  | 82 => ⟨S16x16, .f32⟩
  | 83 => ⟨S389120x16, .f32⟩
  | 84 => ⟨S1x1x16x16, .f32⟩
  | 85 => ⟨S16x16, .f32⟩
  | 86 => ⟨S389120x16, .f32⟩
  | 87 => ⟨S1x1x16x16, .f32⟩
  | 88 => ⟨S16x16, .f32⟩
  | 89 => ⟨S389120x16, .f32⟩
  | 90 => ⟨S_, .i32⟩
  | 91 => ⟨S389120, .i32⟩
  | 92 => ⟨S389120, .i1⟩
  | 93 => ⟨S_, .i32⟩
  | 94 => ⟨S389120, .i32⟩
  | 95 => ⟨S389120, .i32⟩
  | 96 => ⟨S389120, .i32⟩
  | 97 => ⟨S389120x1, .i32⟩
  | 98 => ⟨S389120x16, .f32⟩
  | 99 => ⟨S389120x16, .f32⟩
  | 100 => ⟨S389120x16x1, .f32⟩
  | 101 => ⟨S_, .i32⟩
  | 102 => ⟨S389120, .i32⟩
  | 103 => ⟨S389120, .i1⟩
  | 104 => ⟨S_, .i32⟩
  | 105 => ⟨S389120, .i32⟩
  | 106 => ⟨S389120, .i32⟩
  | 107 => ⟨S389120, .i32⟩
  | 108 => ⟨S389120x1, .i32⟩
  | 109 => ⟨S389120x16x3, .f32⟩
  | 110 => ⟨S389120x16x3, .f32⟩
  | 111 => ⟨S389120x16x3, .f32⟩
  | 112 => ⟨S389120x16x1, .f32⟩
  | 113 => ⟨S389120x1x3, .f32⟩
  | 114 => ⟨S389120x16x3, .f32⟩
  | 115 => ⟨S389120x16x3, .f32⟩
  | 116 => ⟨S389120x16x3, .f32⟩
  | 117 => ⟨S389120x16x3, .f32⟩
  | 118 => ⟨S_, .f32⟩
  | 119 => ⟨S20480x16, .f32⟩
  | 120 => ⟨S389120x1, .i32⟩
  | 121 => ⟨S20480x16, .f32⟩
  | 122 => ⟨S389120x48, .f32⟩
  | 123 => ⟨S_, .f32⟩
  | 124 => ⟨S20480x48, .f32⟩
  | 125 => ⟨S389120x1, .i32⟩
  | 126 => ⟨S20480x48, .f32⟩
  | 127 => ⟨S20480x16x3, .f32⟩
  | _ => ⟨S20480x3, .f32⟩

abbrev hbmTy0_2 (i : Nat) : BufTy := match i % 128 with
  | 0 => ⟨S1x1x16x16, .f32⟩
  | 1 => ⟨S16x16, .f32⟩
  | 2 => ⟨S20480x16, .f32⟩
  | 3 => ⟨S1x1x16x16, .f32⟩
  | 4 => ⟨S16x16, .f32⟩
  | 5 => ⟨S20480x16, .f32⟩
  | 6 => ⟨S20480x16, .f32⟩
  | 7 => ⟨S_, .f32⟩
  | 8 => ⟨S20480x16, .f32⟩
  | 9 => ⟨S20480x16, .f32⟩
  | 10 => ⟨S1x1x16x16, .f32⟩
  | 11 => ⟨S16x16, .f32⟩
  | 12 => ⟨S16x20480x3, .f32⟩
  | 13 => ⟨S20480x16x3, .f32⟩
  | 14 => ⟨S1x1x16x16, .f32⟩
  | 15 => ⟨S16x16, .f32⟩
  | 16 => ⟨S16x20480x3, .f32⟩
  | 17 => ⟨S20480x16x3, .f32⟩
  | 18 => ⟨S20480x16x3, .f32⟩
  | 19 => ⟨S20480x3, .f32⟩
  | 20 => ⟨S1024x20x3, .f32⟩
  | 21 => ⟨S1024x20x3, .f32⟩
  | 22 => ⟨S1024x20x3, .f32⟩
  | 23 => ⟨S20480x3, .f32⟩
  | _ => ⟨S20480x3, .f32⟩

abbrev hbmTy (i : Nat) : BufTy := match i / 128 with
  | 0 => hbmTy0_0 i
  | 1 => hbmTy0_1 i
  | 2 => hbmTy0_2 i
  | _ => ⟨S20480x3, .f32⟩

abbrev bufTy : (tb : Table) → Fin (tcTables nBuf tb) → BufTy
  | .hbm, ⟨i, _⟩ => hbmTy i
  | _, _ => ⟨S20480x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_c_0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_9 : Ref sig .tc := ⟨.hbm, 86, rfl⟩
abbrev main_v67 : Ref sig .tc := ⟨.hbm, 87, rfl⟩
abbrev main_v68 : Ref sig .tc := ⟨.hbm, 88, rfl⟩
abbrev main_c_10 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_11 : Ref sig .tc := ⟨.hbm, 97, rfl⟩
abbrev main_v76 : Ref sig .tc := ⟨.hbm, 98, rfl⟩
abbrev main_v77 : Ref sig .tc := ⟨.hbm, 99, rfl⟩
abbrev main_c_12 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_13 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_14 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_call0_cst : Ref sig .tc := ⟨.hbm, 131, rfl⟩
abbrev main_call0_v0 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_c_15 : Ref sig .tc := ⟨.hbm, 152, rfl⟩
abbrev main_v125 : Ref sig .tc := ⟨.hbm, 153, rfl⟩
abbrev main_v126 : Ref sig .tc := ⟨.hbm, 154, rfl⟩
abbrev main_c_16 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_c_17 : Ref sig .tc := ⟨.hbm, 163, rfl⟩
abbrev main_v134 : Ref sig .tc := ⟨.hbm, 164, rfl⟩
abbrev main_v135 : Ref sig .tc := ⟨.hbm, 165, rfl⟩
abbrev main_c_18 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_19 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_cst_20 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_call1_cst : Ref sig .tc := ⟨.hbm, 197, rfl⟩
abbrev main_call1_v0 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_c_21 : Ref sig .tc := ⟨.hbm, 218, rfl⟩
abbrev main_v183 : Ref sig .tc := ⟨.hbm, 219, rfl⟩
abbrev main_v184 : Ref sig .tc := ⟨.hbm, 220, rfl⟩
abbrev main_c_22 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_c_23 : Ref sig .tc := ⟨.hbm, 229, rfl⟩
abbrev main_v192 : Ref sig .tc := ⟨.hbm, 230, rfl⟩
abbrev main_v193 : Ref sig .tc := ⟨.hbm, 231, rfl⟩
abbrev main_c_24 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_cst_25 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_cst_26 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_call2_cst : Ref sig .tc := ⟨.hbm, 263, rfl⟩
abbrev main_call2_v0 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩

abbrev nD : Nat := 1
abbrev τ : Topo := Topo.v7x

variable {F : FTy → Type} [FloatOps F]
-- ==== Proof.Spec.lean ====
/- The mathematics of the block, for one graph of twenty nodes, over the extended reals: what both programs
   compute, stated without either of them. -/
module

public import Idealize.ShloMosaic.Lib.Pointwise
public import Idealize.ShloMosaic.Lib.IdealHost

@[expose] public section

noncomputable section

namespace Cert.Proof.Spec

open Idealize.ShloMosaic

/-- One graph's positions (or velocities): a vector of three coordinates for each of the twenty nodes. -/
abbrev Pts : Type := Fin 20 → Fin 3 → EReal

/-- One layer's table of channel mixings or of radial weights: sixteen by sixteen numbers. -/
abbrev Mat : Type := Fin 16 → Fin 16 → EReal

/-- Coordinate `k` of the displacement from the source node `s` to the target node `t`. -/
def disp (p : Pts) (s t : Fin 20) (k : Fin 3) : EReal := p t k - p s k

/-- The squared length of the displacement, with the small constant that keeps it away from zero. -/
def sq (p : Pts) (s t : Fin 20) : EReal := (∑ k : Fin 3, disp p s t k * disp p s t k) + Ideal.ofBits .f32 0x322BCC77#32

/-- The distance from `s` to `t`, smoothed by the small constant. -/
def dist (p : Pts) (s t : Fin 20) : EReal := Ideal.sqrt (sq p s t)

/-- Coordinate `k` of the direction from `s` to `t`: the displacement over the distance. -/
def dir (p : Pts) (s t : Fin 20) (k : Fin 3) : EReal := Ideal.div (disp p s t k) (dist p s t)

/-- The radial function number `q` on the pair `(s, t)`: a Gaussian bump in the distance about the centre `c q`. -/
def bump (p : Pts) (c : Fin 16 → EReal) (s t : Fin 20) (q : Fin 16) : EReal :=
  Ideal.exp (Ideal.div (-((dist p s t - c q) * (dist p s t - c q))) (Ideal.ofBits .f32 0x3F000000#32))

/-- The filter of channel `ch` on the pair `(s, t)`: the radial functions weighted by `w`. -/
def filt (p : Pts) (c : Fin 16 → EReal) (w : Mat) (s t : Fin 20) (ch : Fin 16) : EReal := ∑ q : Fin 16, bump p c s t q * w q ch

/-- The message that node `t` receives in channel `ch` and coordinate `k`: over the other nodes `s`, the filter
    `w1` of the pair times the feature `x` of `s`, and the filter `w2` of the pair times the direction. -/
def msg (p : Pts) (c : Fin 16 → EReal) (w1 w2 : Mat) (k : Fin 3) (x : Fin 20 → Fin 16 → EReal) (t : Fin 20) (ch : Fin 16) : EReal :=
  ∑ s ∈ Finset.univ.filter (fun s : Fin 20 => s ≠ t), (filt p c w1 s t ch * x s ch + filt p c w2 s t ch * dir p s t k)

/-- One layer in coordinate `k`: the messages mixed by `m2` plus the features mixed by `m3`. -/
def layer (p : Pts) (c : Fin 16 → EReal) (w1 w2 m2 m3 : Mat) (k : Fin 3) (x : Fin 20 → Fin 16 → EReal) (t : Fin 20) (d : Fin 16) : EReal :=
  (∑ ch : Fin 16, m2 ch d * msg p c w1 w2 k x t ch) + ∑ ch : Fin 16, m3 ch d * x t ch

/-- The features before the first layer: the velocity's coordinate `k` times the channel's weight. -/
def feat0 (v : Pts) (wv : Fin 16 → EReal) (k : Fin 3) (t : Fin 20) (ch : Fin 16) : EReal := v t k * wv ch

/-- The features after the first layer. -/
def feat1 (p v : Pts) (c : Fin 16 → EReal) (wr : Fin 3 → Fin 3 → Mat) (wm : Fin 3 → Fin 4 → Mat) (wv : Fin 16 → EReal) (k : Fin 3) :
    Fin 20 → Fin 16 → EReal :=
  layer p c (wr 0 1) (wr 0 2) (wm 0 2) (wm 0 3) k (feat0 v wv k)

/-- The features after the second layer. -/
def feat2 (p v : Pts) (c : Fin 16 → EReal) (wr : Fin 3 → Fin 3 → Mat) (wm : Fin 3 → Fin 4 → Mat) (wv : Fin 16 → EReal) (k : Fin 3) :
    Fin 20 → Fin 16 → EReal :=
  layer p c (wr 1 1) (wr 1 2) (wm 1 2) (wm 1 3) k (feat1 p v c wr wm wv k)

/-- The features after the third layer. -/
def feat3 (p v : Pts) (c : Fin 16 → EReal) (wr : Fin 3 → Fin 3 → Mat) (wm : Fin 3 → Fin 4 → Mat) (wv : Fin 16 → EReal) (k : Fin 3) :
    Fin 20 → Fin 16 → EReal :=
  layer p c (wr 2 1) (wr 2 2) (wm 2 2) (wm 2 3) k (feat2 p v c wr wm wv k)

/-- The new position of node `t` in coordinate `k`: the features after three layers read out by `wo`, plus the position. -/
def out (p v : Pts) (c : Fin 16 → EReal) (wr : Fin 3 → Fin 3 → Mat) (wm : Fin 3 → Fin 4 → Mat) (wv wo : Fin 16 → EReal) (t : Fin 20) (k : Fin 3) :
    EReal :=
  (∑ ch : Fin 16, feat3 p v c wr wm wv k t ch * wo ch) + p t k

/-! ## The forms the kernel computes -/

/-- The word of the small constant stands for a positive number. -/
theorem small_pos : (0 : EReal) < Ideal.ofBits .f32 0x322BCC77#32 := by
  simp [Ideal.ofBits, Ideal.ieee, -EReal.coe_mul]

/-- A square of an extended real is not negative. -/
theorem mul_self_nonneg' (x : EReal) : 0 ≤ x * x := by
  induction x using EReal.rec with
  | bot => simp
  | coe r => rw [← EReal.coe_mul]; exact_mod_cast mul_self_nonneg r
  | top => simp

/-- The squared length with the small constant is positive. -/
theorem sq_pos (p : Pts) (s t : Fin 20) : 0 < sq p s t :=
  lt_of_lt_of_le small_pos (le_add_of_nonneg_left (Finset.sum_nonneg fun k _ => mul_self_nonneg' _))

/-- The distance is not zero. -/
theorem dist_ne_zero (p : Pts) (s t : Fin 20) : dist p s t ≠ 0 := by
  have h := sq_pos p s t
  unfold dist
  generalize sq p s t = y at h
  induction y using EReal.rec with
  | bot => exact absurd h (by simp)
  | coe r =>
    have hr : 0 < r := by exact_mod_cast h
    have e : Ideal.sqrt (r : EReal) = (Real.sqrt r : EReal) := if_neg (not_lt.2 hr.le)
    rw [e]
    exact_mod_cast (Real.sqrt_pos.2 hr).ne'
  | top => exact EReal.top_ne_zero

/-- The direction as the kernel computes it: the displacement times the reciprocal of the distance. -/
theorem disp_mul_inv (p : Pts) (s t : Fin 20) (k : Fin 3) : disp p s t k * Ideal.div 1 (dist p s t) = dir p s t k :=
  Ideal.mul_one_div (dist_ne_zero p s t)

/-- The exponent of a radial function as the kernel computes it: minus two times a number is minus that number over a half. -/
theorem neg_two_mul (x : EReal) : Ideal.ofBits .f32 0xC0000000#32 * x = Ideal.div (-x) (Ideal.ofBits .f32 0x3F000000#32) := by
  have h2 : Ideal.ofBits .f32 0xC0000000#32 = ((-2 : ℝ) : EReal) := by
    simp [Ideal.ofBits, Ideal.ieee, -EReal.coe_mul, -EReal.coe_neg]; norm_num
  have hh : Ideal.ofBits .f32 0x3F000000#32 = ((1 / 2 : ℝ) : EReal) := by
    simp [Ideal.ofBits, Ideal.ieee, -EReal.coe_mul]; norm_num
  rw [h2, hh, Ideal.div_coe (by norm_num), EReal.coe_neg, EReal.neg_mul, EReal.neg_mul, mul_comm]
  norm_num

/-- The layer as the kernel computes it, over all twenty sources: the radial functions come multiplied by a mask
    `μ`, zero where source and target coincide and one elsewhere, so that the pair of a node with itself adds nothing. -/
theorem msg_masked (p : Pts) (c : Fin 16 → EReal) (μ : Fin 20 → Fin 20 → EReal) (hμ : ∀ s t, μ s t = if s = t then 0 else 1) (w1 w2 : Mat)
    (k : Fin 3) (x : Fin 20 → Fin 16 → EReal) (t : Fin 20) (ch : Fin 16) :
    ∑ s : Fin 20, ((∑ q : Fin 16, bump p c s t q * μ s t * w1 q ch) * x s ch + (∑ q : Fin 16, bump p c s t q * μ s t * w2 q ch) * dir p s t k)
      = msg p c w1 w2 k x t ch := by
  unfold msg
  rw [Finset.sum_filter]
  refine Finset.sum_congr rfl fun s _ => ?_
  by_cases h : s = t
  · rw [if_neg (fun h' => h' h), hμ, if_pos h]
    simp only [mul_zero, zero_mul, Finset.sum_const_zero, add_zero]
  · rw [if_pos h, hμ, if_neg h]
    simp only [mul_one]
    rfl

/-- The layer as the kernel computes it: the masked messages of all twenty sources mixed by `m2`, plus the features
    mixed by `m3`, each product with its factors the other way round. -/
theorem layer_masked (p : Pts) (c : Fin 16 → EReal) (μ : Fin 20 → Fin 20 → EReal) (hμ : ∀ s t, μ s t = if s = t then 0 else 1)
    (w1 w2 m2 m3 : Mat) (k : Fin 3) (x : Fin 20 → Fin 16 → EReal) (t : Fin 20) (d : Fin 16) :
    (∑ ch : Fin 16, (∑ s : Fin 20, ((∑ q : Fin 16, bump p c s t q * μ s t * w1 q ch) * x s ch
        + (∑ q : Fin 16, bump p c s t q * μ s t * w2 q ch) * dir p s t k)) * m2 ch d) + (∑ ch : Fin 16, x t ch * m3 ch d)
      = layer p c w1 w2 m2 m3 k x t d := by
  unfold layer
  simp only [msg_masked p c μ hμ w1 w2 k x t]
  simp only [mul_comm]

/-- Node `n` of graph `b`, among all the nodes. -/
def node (b : Fin 1024) (n : Fin 20) : Fin 20480 := ⟨20 * b.val + n.val, by omega⟩

/-- The new position of node `n` of graph `b`, from the whole arrays of positions and of vectors. -/
def whole (pos vec : Fin 20480 → Fin 3 → EReal) (c : Fin 16 → EReal) (wr : Fin 3 → Fin 3 → Mat) (wm : Fin 3 → Fin 4 → Mat)
    (wv wo : Fin 16 → EReal) (b : Fin 1024) (n : Fin 20) (k : Fin 3) : EReal :=
  out (fun n k => pos (node b n) k) (fun n k => vec (node b n) k) c wr wm wv wo n k

end Cert.Proof.Spec
end
-- ==== Proof.Kernel.lean ====
/- The kernel's body at one element: what each value of the body holds at graph `g` of the block, in terms of
   `Spec.lean`'s functions of that graph. -/
module

public import proofs.«01_k».proof.Proof.Gen.KernelIdeal.Frame
public import proofs.«01_k».proof.Proof.Spec

@[expose] public section

set_option maxRecDepth 16384

noncomputable section

namespace Cert.Proof.Body

open Idealize.ShloMosaic Cert.KernelIdeal Cert.KernelIdeal.Gen

/-- Graph `g`'s points, read off a block of eight graphs. -/
abbrev pts (x : Vec Ideal S8x20x3 .f32) (g : Fin 8) : Spec.Pts := fun n k => x (ix3 g n k)

/-- The sixteen numbers of a row. -/
abbrev row (x : Vec Ideal S1x16 .f32) : Fin 16 → EReal := fun q => x (ix2 0 q)

/-- The mask between two nodes. -/
abbrev mask (x : Vec Ideal S20x20 .f32) : Fin 20 → Fin 20 → EReal := fun s t => x (ix2 s t)

/-- The radial weights of layer `l` and kind `j`: sixteen columns of the one table. -/
abbrev rad (x : Vec Ideal S16x144 .f32) (l j : Fin 3) : Spec.Mat := fun q ch => x (ix2 q ⟨48 * l.val + 16 * j.val + ch.val, by omega⟩)

/-- The mixing table `j` of layer `l`. -/
abbrev mix (x : Vec Ideal S3x4x16x16 .f32) (l : Fin 3) (j : Fin 4) : Spec.Mat := fun ch d => x (ix4 l j ch d)

variable (x0 x1 : Vec Ideal S8x20x3 .f32) (x2 : Vec Ideal S8x20 .f32) (x3 : Vec Ideal S16x144 .f32) (x4 : Vec Ideal S3x4x16x16 .f32)
  (x5 x6 x7 x8 : Vec Ideal S1x16 .f32) (x9 : Vec Ideal S20x20 .f32)

/-- Reading a whole row is the row. -/
theorem ld_row (x : Vec Ideal S1x16 .f32) : View.ld x r0_0 = x := by
  funext i; idx_vars i; pointwise; rw [Subsingleton.elim i0 0]

/-- Reading a whole block of points is the block. -/
theorem ld_pts (x : Vec Ideal S8x20x3 .f32) : View.ld x r0_1 = x := by
  funext i; idx_vars i; pointwise

/-- Reading the whole mask is the mask. -/
theorem ld_mask (x : Vec Ideal S20x20 .f32) : View.ld x r0_2 = x := by
  funext i; idx_vars i; pointwise

/-- Reading the whole table of radial weights is the table. -/
theorem ld_rad (x : Vec Ideal S16x144 .f32) : View.ld x r0_3 = x := by
  funext i; idx_vars i; pointwise

/-- The body's distances are the distances of the graph's points. -/
theorem dist_at (g : Fin 8) (s t : Fin 20) : k0_pay5 x0 (ix3 g s t) = Spec.dist (pts x0 g) s t := by
  pointwise [k0_pay5, k0_pay4, k0_pay2]
  rfl

/-- The body's directions in coordinate 0. -/
theorem dir0_at (g : Fin 8) (s t : Fin 20) : k0_pay43 x0 x1 x2 x3 x4 x5 x6 x7 x8 x9 (ix3 g s t) = Spec.dir (pts x0 g) s t 0 := by
  rw [← Spec.disp_mul_inv, ← dist_at]
  unfold k0_pay43
  rw [ld_pts]
  pointwise [k0_pay7, k0_pay6, k0_pay4, k0_pay2]
  rfl

/-- The body's directions in coordinate 1. -/
theorem dir1_at (g : Fin 8) (s t : Fin 20) : k0_pay44 x0 x1 x2 x3 x4 x5 x6 x7 x8 x9 (ix3 g s t) = Spec.dir (pts x0 g) s t 1 := by
  rw [← Spec.disp_mul_inv, ← dist_at]
  unfold k0_pay44
  rw [ld_pts]
  pointwise [k0_pay8, k0_pay6, k0_pay4, k0_pay2]
  rfl

/-- The body's directions in coordinate 2. -/
theorem dir2_at (g : Fin 8) (s t : Fin 20) : k0_pay45 x0 x1 x2 x3 x4 x5 x6 x7 x8 x9 (ix3 g s t) = Spec.dir (pts x0 g) s t 2 := by
  rw [← Spec.disp_mul_inv, ← dist_at]
  unfold k0_pay45
  rw [ld_pts]
  pointwise [k0_pay9, k0_pay6, k0_pay4, k0_pay2]
  rfl

/-- The body's radial functions, multiplied by the mask, in the row of the pair `(s, t)` of graph `g`. -/
theorem bump_at (g : Fin 8) (s t : Fin 20) (q : Fin 16) :
    k0_pay10 x8 x0 x9 (ix2 ⟨g.val * 400 + s.val * 20 + t.val, by omega⟩ q) = Spec.bump (pts x0 g) (row x8) s t q * mask x9 s t := by
  unfold Spec.bump
  rw [← Spec.neg_two_mul, ← dist_at]
  pointwise [k0_pay10]

/-- The products of the masked radial functions with the radial weights, in the row of the pair `(s, t)` of graph `g`. -/
theorem wall_at (g : Fin 8) (s t : Fin 20) (h : g.val * 400 + s.val * 20 + t.val < 3200) (col : Fin 144) :
    k0_pay48 x0 x1 x2 x3 x4 x5 x6 x7 x8 x9 (ix2 ⟨g.val * 400 + s.val * 20 + t.val, h⟩ col)
      = ∑ q : Fin 16, Spec.bump (pts x0 g) (row x8) s t q * mask x9 s t * x3 (ix2 q col) := by
  simp only [← bump_at]
  unfold k0_pay48 k0_pay46 k0_pay47
  rw [ld_pts, ld_row, ld_mask, ld_rad]
  pointwise [k0_pay12, k0_pay11]

/-- The products, by the name under which the first layer reads them. -/
theorem wall_fold : k0_pay12 (k0_pay46 x0 x1 x2 x3 x4 x5 x6 x7 x8 x9) (k0_pay47 x0 x1 x2 x3 x4 x5 x6 x7 x8 x9) = k0_pay48 x0 x1 x2 x3 x4 x5 x6 x7 x8 x9 := rfl

/-- The features before the first layer, in coordinate 0. -/
theorem feat00_at (g : Fin 8) (n : Fin 20) (ch : Fin 16) :
    k0_pay13 (k0_pay42 x0 x1 x2 x3 x4 x5 x6 x7 x8 x9) (View.ld x6 r0_0) (ix3 g n ch) = Spec.feat0 (pts x1 g) (row x6) 0 n ch := by
  pointwise [k0_pay13, k0_pay42, k0_pay3]
  rfl

/-- The features before the first layer, in coordinate 1. -/
theorem feat01_at (g : Fin 8) (n : Fin 20) (ch : Fin 16) :
    k0_pay14 (k0_pay42 x0 x1 x2 x3 x4 x5 x6 x7 x8 x9) (View.ld x6 r0_0) (ix3 g n ch) = Spec.feat0 (pts x1 g) (row x6) 1 n ch := by
  pointwise [k0_pay14, k0_pay42, k0_pay3]
  rfl

/-- The features before the first layer, in coordinate 2. -/
theorem feat02_at (g : Fin 8) (n : Fin 20) (ch : Fin 16) :
    k0_pay15 (k0_pay42 x0 x1 x2 x3 x4 x5 x6 x7 x8 x9) (View.ld x6 r0_0) (ix3 g n ch) = Spec.feat0 (pts x1 g) (row x6) 2 n ch := by
  pointwise [k0_pay15, k0_pay42, k0_pay3]
  rfl

/-- The features after the first layer in coordinate 2, by the parts from which the second layer reads them. -/
theorem feat12_fold : k0_pay25 (k0_pay50 x0 x1 x2 x3 x4 x5 x6 x7 x8 x9) (k0_pay51 x0 x1 x2 x3 x4 x5 x6 x7 x8 x9) (View.ld x4 r0_5)
    = k0_pay52 x0 x1 x2 x3 x4 x5 x6 x7 x8 x9 := rfl

variable (hμ : ∀ s t, mask x9 s t = if s = t then 0 else 1)

include hμ in
/-- The features after the first layer, in coordinate 0. -/
theorem feat10_at (g : Fin 8) (n : Fin 20) (d : Fin 16) :
    k0_pay21 (k0_pay13 (k0_pay42 x0 x1 x2 x3 x4 x5 x6 x7 x8 x9) (View.ld x6 r0_0)) (k0_pay18 (k0_pay42 x0 x1 x2 x3 x4 x5 x6 x7 x8 x9) (k0_pay43 x0 x1 x2 x3 x4 x5 x6 x7 x8 x9) (k0_pay46 x0 x1 x2 x3 x4 x5 x6 x7 x8 x9) (k0_pay47 x0 x1 x2 x3 x4 x5 x6 x7 x8 x9) (View.ld x6 r0_0)) (View.ld x4 r0_4) (View.ld x4 r0_5) (ix3 g n d)
      = Spec.feat1 (pts x0 g) (pts x1 g) (row x8) (rad x3) (mix x4) (row x6) 0 n d := by
  pointwise [k0_pay21, k0_pay18, k0_pay16, k0_pay17]
  simp only [wall_fold, wall_at, dir0_at, feat00_at]
  exact Spec.layer_masked (pts x0 g) (row x8) (mask x9) hμ (rad x3 0 1) (rad x3 0 2) (mix x4 0 2) (mix x4 0 3) 0 _ n d

include hμ in
/-- The features after the first layer, in coordinate 1. -/
theorem feat11_at (g : Fin 8) (n : Fin 20) (d : Fin 16) :
    k0_pay49 x0 x1 x2 x3 x4 x5 x6 x7 x8 x9 (ix3 g n d)
      = Spec.feat1 (pts x0 g) (pts x1 g) (row x8) (rad x3) (mix x4) (row x6) 1 n d := by
  pointwise [k0_pay49, k0_pay22, k0_pay19, k0_pay16, k0_pay17]
  simp only [wall_fold, wall_at, dir1_at, feat01_at]
  exact Spec.layer_masked (pts x0 g) (row x8) (mask x9) hμ (rad x3 0 1) (rad x3 0 2) (mix x4 0 2) (mix x4 0 3) 1 _ n d

include hμ in
/-- The features after the first layer, in coordinate 2. -/
theorem feat12_at (g : Fin 8) (n : Fin 20) (d : Fin 16) :
    k0_pay52 x0 x1 x2 x3 x4 x5 x6 x7 x8 x9 (ix3 g n d)
      = Spec.feat1 (pts x0 g) (pts x1 g) (row x8) (rad x3) (mix x4) (row x6) 2 n d := by
  pointwise [k0_pay52, k0_pay51, k0_pay50, k0_pay25, k0_pay24, k0_pay23, k0_pay20, k0_pay16, k0_pay17]
  simp only [wall_fold, wall_at, dir2_at, feat02_at]
  exact Spec.layer_masked (pts x0 g) (row x8) (mask x9) hμ (rad x3 0 1) (rad x3 0 2) (mix x4 0 2) (mix x4 0 3) 2 _ n d

include hμ in
/-- The features after the second layer, in coordinate 0. -/
theorem feat20_at (g : Fin 8) (n : Fin 20) (d : Fin 16) :
    k0_pay54 x0 x1 x2 x3 x4 x5 x6 x7 x8 x9 (ix3 g n d)
      = Spec.feat2 (pts x0 g) (pts x1 g) (row x8) (rad x3) (mix x4) (row x6) 0 n d := by
  pointwise [k0_pay54, k0_pay29, k0_pay26, k0_pay27]
  simp only [wall_fold, wall_at, dir0_at, feat10_at x0 x1 x2 x3 x4 x5 x6 x7 x8 x9 hμ]
  exact Spec.layer_masked (pts x0 g) (row x8) (mask x9) hμ (rad x3 1 1) (rad x3 1 2) (mix x4 1 2) (mix x4 1 3) 0 _ n d

include hμ in
/-- The features after the second layer, in coordinate 1. -/
theorem feat21_at (g : Fin 8) (n : Fin 20) (d : Fin 16) :
    k0_pay31 (k0_pay49 x0 x1 x2 x3 x4 x5 x6 x7 x8 x9) (k0_pay55 x0 x1 x2 x3 x4 x5 x6 x7 x8 x9) (View.ld x4 r0_6) (View.ld x4 r0_7) (ix3 g n d)
      = Spec.feat2 (pts x0 g) (pts x1 g) (row x8) (rad x3) (mix x4) (row x6) 1 n d := by
  pointwise [k0_pay31, k0_pay55, k0_pay30, k0_pay26, k0_pay27]
  simp only [wall_fold, wall_at, dir1_at, feat11_at x0 x1 x2 x3 x4 x5 x6 x7 x8 x9 hμ]
  exact Spec.layer_masked (pts x0 g) (row x8) (mask x9) hμ (rad x3 1 1) (rad x3 1 2) (mix x4 1 2) (mix x4 1 3) 1 _ n d

include hμ in
/-- The features after the second layer, in coordinate 2. -/
theorem feat22_at (g : Fin 8) (n : Fin 20) (d : Fin 16) :
    k0_pay32 (k0_pay52 x0 x1 x2 x3 x4 x5 x6 x7 x8 x9) (k0_pay53 x0 x1 x2 x3 x4 x5 x6 x7 x8 x9) (View.ld x4 r0_6) (View.ld x4 r0_7) (ix3 g n d)
      = Spec.feat2 (pts x0 g) (pts x1 g) (row x8) (rad x3) (mix x4) (row x6) 2 n d := by
  pointwise [k0_pay32, k0_pay53, k0_pay28, k0_pay26, k0_pay27]
  simp only [wall_fold, wall_at, dir2_at, feat12_fold, feat12_at x0 x1 x2 x3 x4 x5 x6 x7 x8 x9 hμ]
  exact Spec.layer_masked (pts x0 g) (row x8) (mask x9) hμ (rad x3 1 1) (rad x3 1 2) (mix x4 1 2) (mix x4 1 3) 2 _ n d

include hμ in
/-- The features after the third layer, in coordinate 0. -/
theorem feat30_at (g : Fin 8) (n : Fin 20) (d : Fin 16) :
    k0_pay38 (k0_pay54 x0 x1 x2 x3 x4 x5 x6 x7 x8 x9) (k0_pay35 (k0_pay43 x0 x1 x2 x3 x4 x5 x6 x7 x8 x9) (k0_pay48 x0 x1 x2 x3 x4 x5 x6 x7 x8 x9) (k0_pay54 x0 x1 x2 x3 x4 x5 x6 x7 x8 x9)) (View.ld x4 r0_8) (View.ld x4 r0_9) (ix3 g n d)
      = Spec.feat3 (pts x0 g) (pts x1 g) (row x8) (rad x3) (mix x4) (row x6) 0 n d := by
  pointwise [k0_pay38, k0_pay35, k0_pay33, k0_pay34]
  simp only [wall_fold, wall_at, dir0_at, feat20_at x0 x1 x2 x3 x4 x5 x6 x7 x8 x9 hμ]
  exact Spec.layer_masked (pts x0 g) (row x8) (mask x9) hμ (rad x3 2 1) (rad x3 2 2) (mix x4 2 2) (mix x4 2 3) 0 _ n d

include hμ in
/-- The features after the third layer, in coordinate 1. -/
theorem feat31_at (g : Fin 8) (n : Fin 20) (d : Fin 16) :
    k0_pay39 (k0_pay31 (k0_pay49 x0 x1 x2 x3 x4 x5 x6 x7 x8 x9) (k0_pay55 x0 x1 x2 x3 x4 x5 x6 x7 x8 x9) (View.ld x4 r0_6) (View.ld x4 r0_7)) (k0_pay36 (k0_pay44 x0 x1 x2 x3 x4 x5 x6 x7 x8 x9) (k0_pay48 x0 x1 x2 x3 x4 x5 x6 x7 x8 x9) (k0_pay49 x0 x1 x2 x3 x4 x5 x6 x7 x8 x9) (k0_pay55 x0 x1 x2 x3 x4 x5 x6 x7 x8 x9) (View.ld x4 r0_6) (View.ld x4 r0_7)) (View.ld x4 r0_8) (View.ld x4 r0_9) (ix3 g n d)
      = Spec.feat3 (pts x0 g) (pts x1 g) (row x8) (rad x3) (mix x4) (row x6) 1 n d := by
  pointwise [k0_pay39, k0_pay36, k0_pay33, k0_pay34]
  simp only [wall_fold, wall_at, dir1_at, feat21_at x0 x1 x2 x3 x4 x5 x6 x7 x8 x9 hμ]
  exact Spec.layer_masked (pts x0 g) (row x8) (mask x9) hμ (rad x3 2 1) (rad x3 2 2) (mix x4 2 2) (mix x4 2 3) 1 _ n d

include hμ in
/-- What the body leaves in the output's block: the new position of node `n` of graph `g`. -/
theorem out_at (g : Fin 8) (n : Fin 20) (k : Fin 3) :
    out0_10 x0 x1 x2 x3 x4 x5 x6 x7 x8 x9 (ix3 g n k) = Spec.out (pts x0 g) (pts x1 g) (row x8) (rad x3) (mix x4) (row x6) (row x7) n k := by
  unfold out0_10
  rw [View.canon_unit_zero (by funext a; fin_cases a <;> rfl)]
  unfold Spec.out
  rcases (by omega : k.val = 0 ∨ k.val = 1 ∨ k.val = 2) with hk | hk | hk
  · obtain rfl : k = 0 := Fin.ext hk
    pointwise [k0_pay1, k0_pay2]
    simp only [feat30_at x0 x1 x2 x3 x4 x5 x6 x7 x8 x9 hμ]
  · obtain rfl : k = 1 := Fin.ext hk
    pointwise [k0_pay1, k0_pay2]
    simp only [feat31_at x0 x1 x2 x3 x4 x5 x6 x7 x8 x9 hμ]
  · obtain rfl : k = 2 := Fin.ext hk
    pointwise [k0_pay1, k0_pay2, k0_pay40, k0_pay41, k0_pay33, k0_pay34, k0_pay37]
    simp only [wall_at, dir2_at, feat22_at x0 x1 x2 x3 x4 x5 x6 x7 x8 x9 hμ]
    exact congrArg (· + x0 (ix3 g n 2)) (Finset.sum_congr rfl fun d _ => congrArg (· * x7 (ix2 0 d))
      (Spec.layer_masked (pts x0 g) (row x8) (mask x9) hμ (rad x3 2 1) (rad x3 2 2) (mix x4 2 2) (mix x4 2 3) 2 _ n d))

end Cert.Proof.Body
end
-- ==== Proof.KArray.lean ====
/- The kernel's launch: what its result array holds when the program has ended, element by element. -/
module

public import proofs.«01_k».proof.Proof.Kernel
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

namespace Cert.Proof.Launch

open Idealize.ShloMosaic Idealize.SL.Sem Cert.KernelIdeal Cert.KernelIdeal.Gen

variable (m : (ℓ : Loc nD τ sig) → Buf (Elt Ideal) ℓ) (c : Dev nD)

/-- Where each window stands at each step of the grid. -/
theorem idx : ∀ t : Fin grid0.N, win0_0.index t = ![t.val, 0, 0] ∧ win0_1.index t = ![t.val, 0, 0] ∧ win0_3.index t = ![0, 0]
    ∧ win0_4.index t = ![0, 0, 0, 0] ∧ win0_6.index t = ![0, 0] ∧ win0_7.index t = ![0, 0] ∧ win0_8.index t = ![0, 0]
    ∧ win0_9.index t = ![0, 0] ∧ win0_10.index t = ![t.val, 0, 0] := by
  decide +kernel

/-- The graph that is the `g`-th of step `t`. -/
def graph (t : Fin grid0.N) (g : Fin 8) : Fin 1024 := ⟨8 * t.val + g.val, by have : grid0.N = 128 := by decide +kernel
                                                                             omega⟩

/-- The block of positions at step `t`. -/
theorem blk0 (t : Fin cfg0.N) (g : Fin 8) (n : Fin 20) (k : Fin 3) :
    iblk m c 0 t (ix3 g n k) = m ((c.tc : Thread nD τ).loc main_arg0) (ix2 (Spec.node (graph t g) n) k) := by
  have e := (idx t).1
  have he : (win0_0.blk t).view.emb (ix3 g n k) = ix3 (graph t g) n k := by
    unfold graph; blk_ext [e]
  show V m c main_v1 ((win0_0.blk t).view.emb (ix3 g n k)) = _
  rw [he]
  simp only [V, V0, List.flatten_cons, List.flatten_nil, List.append_nil]
  entry_read
  clean_types
  pointwise
  exact congrArg (m ((c.tc : Thread nD τ).loc main_arg0)) (congrArg (ix2 · k) (Fin.ext (by simp only [Spec.node]; omega)))

/-- The block of vectors at step `t`. -/
theorem blk1 (t : Fin cfg0.N) (g : Fin 8) (n : Fin 20) (k : Fin 3) :
    iblk m c 1 t (ix3 g n k) = m ((c.tc : Thread nD τ).loc main_arg1) (ix2 (Spec.node (graph t g) n) k) := by
  have e := (idx t).2.1
  have he : (win0_1.blk t).view.emb (ix3 g n k) = ix3 (graph t g) n k := by
    unfold graph; blk_ext [e]
  show V m c main_v2 ((win0_1.blk t).view.emb (ix3 g n k)) = _
  rw [he]
  simp only [V, V0, List.flatten_cons, List.flatten_nil, List.append_nil]
  entry_read
  clean_types
  pointwise
  exact congrArg (m ((c.tc : Thread nD τ).loc main_arg1)) (congrArg (ix2 · k) (Fin.ext (by simp only [Spec.node]; omega)))

/-- The block of radial weights, at every step the same. -/
theorem blk3 (t : Fin cfg0.N) (q : Fin 16) (l j : Fin 3) (ch : Fin 16) :
    iblk m c 3 t (ix2 q ⟨48 * l.val + 16 * j.val + ch.val, by omega⟩) = m ((c.tc : Thread nD τ).loc main_arg3) (ix4 l j q ch) := by
  have e := (idx t).2.2.1
  show V m c main_v6 ((win0_3.blk t).view.emb _) = _
  have he : ∀ (a : Fin 16) (b : Fin 144), (win0_3.blk t).view.emb (ix2 a b) = ix2 a b := by
    intro a b; blk_ext [e]
  rw [he]
  simp only [V, V0, List.flatten_cons, List.flatten_nil, List.append_nil]
  entry_read
  clean_types
  pointwise

/-- The block of mixing weights, at every step the same. -/
theorem blk4 (t : Fin cfg0.N) (l : Fin 3) (j : Fin 4) (ch d : Fin 16) :
    iblk m c 4 t (ix4 l j ch d) = m ((c.tc : Thread nD τ).loc main_arg4) (ix4 l j ch d) := by
  have e := (idx t).2.2.2.1
  show V m c main_arg4 ((win0_4.blk t).view.emb _) = _
  have he : (win0_4.blk t).view.emb (ix4 l j ch d) = ix4 l j ch d := by blk_ext [e]
  rw [he, V_main_arg4]

/-- The block of vector weights, at every step the same. -/
theorem blk6 (t : Fin cfg0.N) (q : Fin 16) : iblk m c 6 t (ix2 0 q) = m ((c.tc : Thread nD τ).loc main_arg6) (ix1 q) := by
  have e := (idx t).2.2.2.2.1
  show V m c main_v8 ((win0_6.blk t).view.emb _) = _
  have he : (win0_6.blk t).view.emb (ix2 0 q) = ix2 0 q := by blk_ext [e]
  rw [he]
  simp only [V, V0, List.flatten_cons, List.flatten_nil, List.append_nil]
  entry_read
  clean_types
  pointwise

/-- The block of output weights, at every step the same. -/
theorem blk7 (t : Fin cfg0.N) (q : Fin 16) : iblk m c 7 t (ix2 0 q) = m ((c.tc : Thread nD τ).loc main_arg7) (ix1 q) := by
  have e := (idx t).2.2.2.2.2.1
  show V m c main_v9 ((win0_7.blk t).view.emb _) = _
  have he : (win0_7.blk t).view.emb (ix2 0 q) = ix2 0 q := by blk_ext [e]
  rw [he]
  simp only [V, V0, List.flatten_cons, List.flatten_nil, List.append_nil]
  entry_read
  clean_types
  pointwise

/-- The sixteen centers. -/
def centers (q : Fin 16) : EReal := Ideal.ofBits .f32 (lit0 (S16.rowMajor (ix1 q)))

/-- The block of centers, at every step the same. -/
theorem blk8 (t : Fin cfg0.N) (q : Fin 16) : iblk m c 8 t (ix2 0 q) = centers q := by
  have e := (idx t).2.2.2.2.2.2.1
  show V m c main_v0 ((win0_8.blk t).view.emb _) = _
  have he : (win0_8.blk t).view.emb (ix2 0 q) = ix2 0 q := by blk_ext [e]
  rw [he]
  simp only [V, V0, List.flatten_cons, List.flatten_nil, List.append_nil]
  entry_read
  clean_types
  pointwise
  rfl

/-- The words of the mask: one off the diagonal, zero on it. -/
theorem mask_word : ∀ s u : Fin 20, lit1 (S20x20.rowMajor (ix2 s u)) = if s = u then 0x00000000#32 else 0x3F800000#32 := by
  decide +kernel

/-- The block of the mask, at every step the same. -/
theorem blk9 (t : Fin cfg0.N) (s u : Fin 20) : iblk m c 9 t (ix2 s u) = (if s = u then (0 : EReal) else 1) := by
  have e := (idx t).2.2.2.2.2.2.2.1
  show V m c main_cst_0 ((win0_9.blk t).view.emb _) = _
  have he : (win0_9.blk t).view.emb (ix2 s u) = ix2 s u := by blk_ext [e]
  rw [he]
  simp only [V, V0, List.flatten_cons, List.flatten_nil, List.append_nil]
  entry_read
  clean_types
  pointwise
  rw [mask_word]
  split
  · exact Ideal.ofBits_zero_f32
  · exact Ideal.ofBits_one_f32

/-- What the kernel's result holds at node `n` of graph `b`, coordinate `k`. -/
def res (b : Fin 1024) (n : Fin 20) (k : Fin 3) : EReal :=
  Spec.whole (fun i k => m ((c.tc : Thread nD τ).loc main_arg0) (ix2 i k)) (fun i k => m ((c.tc : Thread nD τ).loc main_arg1) (ix2 i k))
    centers (fun l j q ch => m ((c.tc : Thread nD τ).loc main_arg3) (ix4 l j q ch))
    (fun l j ch d => m ((c.tc : Thread nD τ).loc main_arg4) (ix4 l j ch d))
    (fun q => m ((c.tc : Thread nD τ).loc main_arg6) (ix1 q)) (fun q => m ((c.tc : Thread nD τ).loc main_arg7) (ix1 q)) b n k

/-- What step `t` leaves in the output's block. -/
theorem blk10 (t : Fin cfg0.N) (g : Fin 8) (n : Fin 20) (k : Fin 3) :
    out0_10 (iblk m c 0 t) (iblk m c 1 t) (iblk m c 2 t) (iblk m c 3 t) (iblk m c 4 t) (iblk m c 5 t) (iblk m c 6 t)
      (iblk m c 7 t) (iblk m c 8 t) (iblk m c 9 t) (ix3 g n k) = res m c (graph t g) n k := by
  have h0 : Body.pts (iblk m c 0 t) g = fun n k => m ((c.tc : Thread nD τ).loc main_arg0) (ix2 (Spec.node (graph t g) n) k) := by
    funext n k; exact blk0 m c t g n k
  have h1 : Body.pts (iblk m c 1 t) g = fun n k => m ((c.tc : Thread nD τ).loc main_arg1) (ix2 (Spec.node (graph t g) n) k) := by
    funext n k; exact blk1 m c t g n k
  have h3 : Body.rad (iblk m c 3 t) = fun l j q ch => m ((c.tc : Thread nD τ).loc main_arg3) (ix4 l j q ch) := by
    funext l j q ch; exact blk3 m c t q l j ch
  have h4 : Body.mix (iblk m c 4 t) = fun l j ch d => m ((c.tc : Thread nD τ).loc main_arg4) (ix4 l j ch d) := by
    funext l j ch d; exact blk4 m c t l j ch d
  have h6 : Body.row (iblk m c 6 t) = fun q => m ((c.tc : Thread nD τ).loc main_arg6) (ix1 q) := by
    funext q; exact blk6 m c t q
  have h7 : Body.row (iblk m c 7 t) = fun q => m ((c.tc : Thread nD τ).loc main_arg7) (ix1 q) := by
    funext q; exact blk7 m c t q
  have h8 : Body.row (iblk m c 8 t) = centers := by
    funext q; exact blk8 m c t q
  refine (Body.out_at _ _ _ _ _ _ _ _ _ _ (blk9 m c t) g n k).trans ?_
  rw [h0, h1, h3, h4, h6, h7, h8]
  rfl

/-- The output's array after the last step. -/
theorem array : (dats m 0 c).arrAt 10 cfg0.N = fun i : S1024x20x3.Idx => res m c (i 0) (i 1) (i 2) := by
  refine (dats m 0 c).arrAt_eq_of_covers 10 _ (by decide +kernel) fun t hf y => ?_
  have e := (idx t).2.2.2.2.2.2.2.2
  have hy : ∃ (g : Fin 8) (n : Fin 20) (k : Fin 3), y = ix3 g n k := ⟨y 0, y 1, y 2, by funext a; fin_cases a <;> rfl⟩
  blk_simp
  rw [after0_10]
  obtain ⟨g, n, k, rfl⟩ := hy
  have he : (win0_10.blk t).view.emb (ix3 g n k) = ix3 (graph t g) n k := by
    unfold graph; blk_ext [e]
  rw [he]
  exact blk10 m c t g n k

/-- The kernel's result array, as the program's last operation leaves it. -/
def result : S20480x3.Idx → EReal := fun i =>
  res m c ⟨(i 0).val / 20, by have := (i 0).isLt; simp at this; omega⟩ ⟨(i 0).val % 20, Nat.mod_lt _ (by decide)⟩ (i 1)

/-- The result buffer at the end is the output's array with its first two axes made one. -/
theorem tail_eq : Pipeline.afterTail₀ cfgs (dats m) 0 (V0 m) [hostOps1] c main_v11 = result m c := by
  have h : Pipeline.withArrays (cfgs 0).spec c (V0 m c) (fun w => (dats m 0 c).arrAt w (cfgs 0).N) (Proc.devRef .tc main_v10)
      = fun i : S1024x20x3.Idx => res m c (i 0) (i 1) (i 2) :=
    (Pipeline.withArrays_arr spec0 (by decide) c (V0 m c) _ 10).trans (array m c)
  unfold Pipeline.afterTail₀
  simp only [List.flatten_cons, List.flatten_nil, List.append_nil]
  generalize Pipeline.withArrays (cfgs 0).spec c (V0 m c) (fun w => (dats m 0 c).arrAt w (cfgs 0).N) = W at h ⊢
  entry_read
  rw [h]
  funext i
  clean_types
  idx_vars i
  pointwise
  rfl

/-- From any memory with zero counters the program ends, its result buffer holding `result` and its arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨((h.1 c).2 main_v11 (by decide)).trans (tail_eq m c), h.2 c⟩)
    (θ_run_and (run_main m ρ) (unchanged m ρ))

end Cert.Proof.Launch

end
-- ==== Proof.Edges.lean ====
/- The edges of the reference: which nodes each edge joins, and what a gather along the edges reads and a scatter along them
   adds up. -/
module

public import proofs.«01_k».proof.Proof.Gen.ReferenceIdeal
public import proofs.«01_k».proof.Proof.Gen.ReferenceIdeal.Run
public import proofs.«01_k».proof.Proof.Spec
public import Idealize.ShloMosaic.Lib.Pointwise
public import Idealize.ShloMosaic.Lib.Tactic.CleanTypes
public import Idealize.ShloMosaic.Lib.Routing.OpsPair
public import Idealize.ShloMosaic.Lib.Pointwise.IndexBridge

@[expose] public section

set_option maxRecDepth 16384

noncomputable section

namespace Cert.Proof.Ref

open Idealize.ShloMosaic Cert.ReferenceIdeal Cert.ReferenceIdeal.Gen

/-- The source node of edge `e`. -/
def esrc (e : Fin 389120) : Fin 20480 := ⟨20 * (e.val / 380) + e.val % 380 / 19, by omega⟩

/-- The place of the destination node of edge `e` in its graph. -/
def eplace (j : ℕ) : ℕ := if j % 19 < j / 19 then j % 19 else j % 19 + 1

theorem eplace_lt (j : ℕ) : eplace j < 20 := by unfold eplace; split <;> omega

/-- The destination node of edge `e`. -/
def edst (e : Fin 389120) : Fin 20480 := ⟨20 * (e.val / 380) + eplace (e.val % 380), by have := eplace_lt (e.val % 380); omega⟩

/-- The edge of graph `b` from its node `s` to its node `t`. -/
def edge (b : Fin 1024) (s t : Fin 20) : Fin 389120 :=
  ⟨380 * b.val + (19 * s.val + if t.val < s.val then t.val else t.val - 1), by split <;> omega⟩

theorem edge_parts (b : Fin 1024) (s t : Fin 20) (h : s ≠ t) :
    (edge b s t).val / 380 = b.val ∧ (edge b s t).val % 380 / 19 = s.val ∧ eplace ((edge b s t).val % 380) = t.val := by
  have h' : s.val ≠ t.val := fun e => h (Fin.ext e)
  have h1 : (edge b s t).val % 380 = 19 * s.val + if t.val < s.val then t.val else t.val - 1 := by
    unfold edge; dsimp only; split <;> omega
  have h2 : (edge b s t).val / 380 = b.val := by
    unfold edge; dsimp only; split <;> omega
  refine ⟨h2, ?_, ?_⟩
  · rw [h1]; split <;> omega
  · rw [h1]; unfold eplace
    by_cases hlt : t.val < s.val
    · rw [if_pos hlt, if_pos (by omega)]; omega
    · rw [if_neg hlt, if_neg (by omega)]; omega

/-- An edge's source is where it starts. -/
theorem esrc_edge (b : Fin 1024) (s t : Fin 20) (h : s ≠ t) : esrc (edge b s t) = Spec.node b s := by
  obtain ⟨h1, h2, _⟩ := edge_parts b s t h
  exact Fin.ext (by simp only [esrc, Spec.node, h1, h2])

/-- An edge's destination is where it ends. -/
theorem edst_edge (b : Fin 1024) (s t : Fin 20) (h : s ≠ t) : edst (edge b s t) = Spec.node b t := by
  obtain ⟨h1, _, h3⟩ := edge_parts b s t h
  exact Fin.ext (by simp only [edst, Spec.node, h1, h3])

/-- A sum over the edges into node `t` of graph `b` is a sum over the graph's other nodes. -/
theorem sum_edges (f : Fin 389120 → EReal) (b : Fin 1024) (t : Fin 20) :
    ∑ e ∈ Finset.univ.filter (fun e => edst e = Spec.node b t), f e = ∑ s ∈ Finset.univ.filter (fun s => s ≠ t), f (edge b s t) := by
  refine (Finset.sum_bij (fun s _ => edge b s t) ?_ ?_ ?_ ?_).symm
  · intro s hs
    exact Finset.mem_filter.2 ⟨Finset.mem_univ _, edst_edge b s t (Finset.mem_filter.1 hs).2⟩
  · intro s hs s' hs' he
    have h1 := (edge_parts b s t (Finset.mem_filter.1 hs).2).2.1
    have h2 := (edge_parts b s' t (Finset.mem_filter.1 hs').2).2.1
    rw [he] at h1
    exact Fin.ext (h1.symm.trans h2)
  · intro e he
    have hd := congrArg Fin.val (Finset.mem_filter.1 he).2
    simp only [edst, Spec.node] at hd
    have hp := eplace_lt (e.val % 380)
    have hb : e.val / 380 = b.val := by omega
    have ht : eplace (e.val % 380) = t.val := by omega
    have hs : e.val % 380 / 19 < 20 := by omega
    unfold eplace at ht
    refine ⟨⟨e.val % 380 / 19, hs⟩, Finset.mem_filter.2 ⟨Finset.mem_univ _, fun h => ?_⟩, Fin.ext ?_⟩
    · have := congrArg Fin.val h
      dsimp only at this
      split at ht <;> omega
    · unfold edge; dsimp only
      split at ht
      · rw [if_pos (by omega)]; omega
      · rw [if_neg (by omega)]; omega
  · intro s _; rfl

/-- The table of sources within a graph. -/
theorem src_word : ∀ j : Fin 380, lit0 (S380.rowMajor (ix1 j)) = BitVec.ofNat 32 (j.val / 19) := by decide +kernel

/-- The table of destinations within a graph. -/
theorem dst_word : ∀ j : Fin 380, lit1 (S380.rowMajor (ix1 j)) = BitVec.ofNat 32 (eplace j.val) := by decide +kernel

variable (V : Valuation τ sig (Elt Ideal))

/-- A table's word, moved by twenty for each graph before this one. -/
theorem word_add (a b : ℕ) : IntOp.addi (BitVec.ofNat 32 a) (IntOp.muli (BitVec.ofNat 32 b) 20#32) = BitVec.ofNat 32 (20 * b + a) := by
  show BitVec.ofNat 32 a + BitVec.ofNat 32 b * BitVec.ofNat 32 20 = _
  rw [← BitVec.ofNat_mul, ← BitVec.ofNat_add, Nat.mul_comm b 20, Nat.add_comm]

/-- The reference's array of sources holds each edge's source. -/
theorem v10_at (e : Fin 389120) : Value.res_main_v10 V (ix1 e) = BitVec.ofNat 32 (esrc e).val := by
  clean_types
  pointwise [Value.res_main_v10, Value.res_main_v6]
  rw [src_word, word_add]
  rfl

/-- The reference's array of destinations holds each edge's destination. -/
theorem v14_at (e : Fin 389120) : Value.res_main_v14 V (ix1 e) = BitVec.ofNat 32 (edst e).val := by
  clean_types
  pointwise [Value.res_main_v14, Value.res_main_v6]
  rw [dst_word, word_add]
  rfl

/-- A word holding a node's number, wrapped as an index that may be negative, is itself. -/
theorem wrap_node (n : Fin 20480) :
    Scalar.select (IntOp.cmpi .slt (BitVec.ofNat 32 n.val) 0#32) (IntOp.addi (BitVec.ofNat 32 n.val) 20480#32) (BitVec.ofNat 32 n.val)
      = BitVec.ofNat 32 n.val :=
  Routing.wrap_of_lt _ _ (by rw [BitVec.toNat_ofNat, Nat.mod_eq_of_lt (by omega)]; omega)

/-- A word holding a node's number, read signed and kept inside the array. -/
theorem clamp_node (n : Fin 20480) : min (BitVec.ofNat 32 n.val).toInt.toNat (20480 - 1) = n.val := by
  rw [StableHlo.Predicate.toInt_ofNat_small _ (by omega)]
  have : ((n.val : ℤ)).toNat = n.val := rfl
  omega

/-- Positions gathered along the edges: at an edge whose word is `n`, node `n`'s position. -/
theorem gather2 (x : FVec Ideal S20480x3 .f32) (idx : IVec S389120x1 32) (e : Fin 389120) (k : Fin 3) (n : Fin 20480)
    (h : idx (ix2 e 0) = BitVec.ofNat 32 n.val) :
    Host.gather gather_S20480x3_S389120x1_S389120x3_1_0_n_n_0_1_13 x idx (ix2 e k) = x (ix2 n k) := by
  have hs : (gather_S20480x3_S389120x1_S389120x3_1_0_n_n_0_1_13).siIdx (ix2 e k) ⟨0, by decide⟩ = ix2 e 0 := by
    funext b; fin_cases b <;> rfl
  unfold Host.gather
  refine congrArg x (funext fun a => Fin.ext ?_)
  fin_cases a
  · show min (idx ((gather_S20480x3_S389120x1_S389120x3_1_0_n_n_0_1_13).siIdx (ix2 e k) ⟨0, by decide⟩)).toInt.toNat (20480 - 1) + 0 + 0 = n.val
    rw [hs, h, clamp_node]; omega
  · show 0 + 0 + k.val = k.val
    omega

/-- Features gathered along the edges: at an edge whose word is `n`, node `n`'s feature. -/
theorem gather3 (x : FVec Ideal S20480x16x3 .f32) (idx : IVec S389120x1 32) (e : Fin 389120) (ch : Fin 16) (k : Fin 3) (n : Fin 20480)
    (h : idx (ix2 e 0) = BitVec.ofNat 32 n.val) :
    Host.gather gather_S20480x16x3_S389120x1_S389120x16x3_12_0_n_n_0_1_1163 x idx (ix3 e ch k) = x (ix3 n ch k) := by
  have hs : (gather_S20480x16x3_S389120x1_S389120x16x3_12_0_n_n_0_1_1163).siIdx (ix3 e ch k) ⟨0, by decide⟩ = ix2 e 0 := by
    funext b; fin_cases b <;> rfl
  unfold Host.gather
  refine congrArg x (funext fun a => Fin.ext ?_)
  fin_cases a
  · show min (idx ((gather_S20480x16x3_S389120x1_S389120x16x3_12_0_n_n_0_1_1163).siIdx (ix3 e ch k) ⟨0, by decide⟩)).toInt.toNat (20480 - 1) + 0 + 0 = n.val
    rw [hs, h, clamp_node]; omega
  · show 0 + 0 + ch.val = ch.val
    omega
  · show 0 + 0 + k.val = k.val
    omega

/-- An update of the scatter along the edges lands at its edge's node, in its own column. -/
theorem lands (idx : IVec S389120x1 32) (e : Fin 389120) (y : Fin 48) (d n : Fin 20480) (c : Fin 48)
    (h : idx (ix2 e 0) = BitVec.ofNat 32 d.val) :
    (scatter_S20480x48_S389120x1_S389120x48_1_0_0_1).resultIdx? (ix2 e y) idx = some (ix2 n c) ↔ d = n ∧ y = c := by
  have hs : (scatter_S20480x48_S389120x1_S389120x48_1_0_0_1).siIdx (ix2 e y) ⟨0, by decide⟩ = ix2 e 0 := by
    funext b; fin_cases b <;> rfl
  have h0 : (scatter_S20480x48_S389120x1_S389120x48_1_0_0_1).start (ix2 e y) idx 0 = (d.val : ℤ) := by
    show (idx ((scatter_S20480x48_S389120x1_S389120x48_1_0_0_1).siIdx (ix2 e y) ⟨0, by decide⟩)).toInt = _
    rw [hs, h, StableHlo.Predicate.toInt_ofNat_small _ (by omega)]
  have h1 : (scatter_S20480x48_S389120x1_S389120x48_1_0_0_1).start (ix2 e y) idx 1 = 0 := rfl
  have w0 : (scatter_S20480x48_S389120x1_S389120x48_1_0_0_1).window (ix2 e y) 0 = 0 := rfl
  have w1 : (scatter_S20480x48_S389120x1_S389120x48_1_0_0_1).window (ix2 e y) 1 = y.val := rfl
  rw [Routing.resultIdx?_eq_some]
  constructor
  · intro q
    have q0 := q 0
    have q1 := q 1
    rw [h0, w0] at q0
    rw [h1, w1] at q1
    have r0 : ((ix2 n c : S20480x48.Idx) 0).val = n.val := rfl
    have r1 : ((ix2 n c : S20480x48.Idx) 1).val = c.val := rfl
    rw [r0] at q0
    rw [r1] at q1
    exact ⟨Fin.ext (by omega), Fin.ext (by omega)⟩
  · rintro ⟨rfl, rfl⟩ a
    fin_cases a
    · show (scatter_S20480x48_S389120x1_S389120x48_1_0_0_1).start (ix2 e y) idx 0
        + ((scatter_S20480x48_S389120x1_S389120x48_1_0_0_1).window (ix2 e y) 0 : ℤ) = (d.val : ℤ)
      rw [h0, w0]; simp
    · show (scatter_S20480x48_S389120x1_S389120x48_1_0_0_1).start (ix2 e y) idx 1
        + ((scatter_S20480x48_S389120x1_S389120x48_1_0_0_1).window (ix2 e y) 1 : ℤ) = (y.val : ℤ)
      rw [h1, w1]; simp

/-- The scatter along the edges: at a graph's node it adds up the updates of the edges from the graph's other nodes. -/
theorem scatter_at (x : FVec Ideal S20480x48 .f32) (idx : IVec S389120x1 32) (upd : FVec Ideal S389120x48 .f32)
    (h : ∀ e, idx (ix2 e 0) = BitVec.ofNat 32 (edst e).val) (b : Fin 1024) (t : Fin 20) (c : Fin 48) :
    Host.scatterAdd scatter_S20480x48_S389120x1_S389120x48_1_0_0_1 x idx upd (ix2 (Spec.node b t) c)
      = x (ix2 (Spec.node b t) c) + ∑ s ∈ Finset.univ.filter (fun s => s ≠ t), upd (ix2 (edge b s t) c) := by
  rw [← sum_edges (fun e => upd (ix2 e c)) b t]
  unfold Host.scatterAdd
  rw [Ideal.hostScatterAdd_def]
  refine congrArg (x (ix2 (Spec.node b t) c) + ·) (Finset.sum_bij (fun e _ => ix2 e c) ?_ ?_ ?_ ?_).symm
  · intro e he
    exact Finset.mem_filter.2 ⟨Finset.mem_univ _, (lands idx e c _ _ c (h e)).2 ⟨(Finset.mem_filter.1 he).2, rfl⟩⟩
  · intro e _ e' _ he
    exact congrFun he 0
  · intro j hj
    obtain ⟨e, y, rfl⟩ : ∃ (e : Fin 389120) (y : Fin 48), j = ix2 e y := ⟨j 0, j 1, by funext a; fin_cases a <;> rfl⟩
    obtain ⟨h1, h2⟩ := (lands idx e y _ _ c (h e)).1 (Finset.mem_filter.1 hj).2
    exact ⟨e, Finset.mem_filter.2 ⟨Finset.mem_univ _, h1⟩, by rw [h2]⟩
  · intro e _; rfl

end Cert.Proof.Ref

end
-- ==== Proof.Reference.lean ====
/- The reference's result at one element, in terms of `Spec.lean`'s functions of the element's graph. -/
module

public import proofs.«01_k».proof.Proof.Edges

@[expose] public section

set_option maxRecDepth 16384

noncomputable section

namespace Cert.Proof.Ref

open Idealize.ShloMosaic Cert.ReferenceIdeal Cert.ReferenceIdeal.Gen

variable (V : Valuation τ sig (Elt Ideal))

/-- The positions, as an array. -/
abbrev pos : FVec Ideal S20480x3 .f32 := V (Proc.devRef .tc main_arg0)
/-- The vectors, as an array. -/
abbrev vec : FVec Ideal S20480x3 .f32 := V (Proc.devRef .tc main_arg1)
/-- The radial weights, as an array. -/
abbrev wr : FVec Ideal S3x3x16x16 .f32 := V (Proc.devRef .tc main_arg3)
/-- The mixing weights, as an array. -/
abbrev wm : FVec Ideal S3x4x16x16 .f32 := V (Proc.devRef .tc main_arg4)
/-- The vector weights, as an array. -/
abbrev wv : FVec Ideal S16 .f32 := V (Proc.devRef .tc main_arg6)
/-- The output weights, as an array. -/
abbrev wo : FVec Ideal S16 .f32 := V (Proc.devRef .tc main_arg7)

/-- Graph `b`'s positions. -/
abbrev pts (x : FVec Ideal S20480x3 .f32) (b : Fin 1024) : Spec.Pts := fun n k => x (ix2 (Spec.node b n) k)

/-- The sixteen centers. -/
def centers (q : Fin 16) : EReal := Ideal.ofBits .f32 (lit2 (S16.rowMajor (ix1 q)))

/-- An array of node numbers, along the edges, as the start indices of a gather: each wrapped as an index that may be negative. -/
def starts (w : IVec S389120 32) : IVec S389120x1 32 :=
  broadcastInDim S389120x1 ![0] bcast_S389120_S389120x1_0 (select (cmpi .slt w (broadcastInDim S389120 ![] bcast_S_S389120 (constantI S_ 32 0#32)))
    (addi w (broadcastInDim S389120 ![] bcast_S_S389120 (constantI S_ 32 20480#32))) w)

/-- A gather starts at the node whose number the array holds. -/
theorem starts_at (w : IVec S389120 32) (e : Fin 389120) (n : Fin 20480) (h : w (ix1 e) = BitVec.ofNat 32 n.val) :
    starts w (ix2 e 0) = BitVec.ofNat 32 n.val := by
  pointwise [starts]
  rw [h, wrap_node]

/-- The displacement along an edge. -/
theorem disp_at (b : Fin 1024) (s t : Fin 20) (h : s ≠ t) (k : Fin 3) :
    Value.res_main_v29 V (ix2 (edge b s t) k) = Spec.disp (pts (pos V) b) s t k := by
  have e : Value.res_main_v29 V = subf (Host.gather gather_S20480x3_S389120x1_S389120x3_1_0_n_n_0_1_13 (pos V) (starts (Value.res_main_v14 V)))
      (Host.gather gather_S20480x3_S389120x1_S389120x3_1_0_n_n_0_1_13 (pos V) (starts (Value.res_main_v10 V))) := rfl
  rw [e]
  pointwise
  rw [gather2 (pos V) _ _ k _ (starts_at _ _ _ (v14_at V (edge b s t))), gather2 (pos V) _ _ k _ (starts_at _ _ _ (v10_at V (edge b s t))),
    esrc_edge b s t h, edst_edge b s t h]
  rfl

/-- The distance along an edge. -/
theorem dist_at (b : Fin 1024) (s t : Fin 20) (h : s ≠ t) :
    Value.res_main_v34 V (ix1 (edge b s t)) = Spec.dist (pts (pos V) b) s t := by
  clean_types
  pointwise [Value.res_main_v34]
  simp only [disp_at V b s t h]
  rfl

/-- The direction along an edge. -/
theorem dir_at (b : Fin 1024) (s t : Fin 20) (h : s ≠ t) (k : Fin 3) :
    Value.res_main_v37 V (ix2 (edge b s t) k) = Spec.dir (pts (pos V) b) s t k := by
  clean_types
  pointwise [Value.res_main_v37]
  rw [disp_at V b s t h, dist_at V b s t h]
  rfl

/-- The radial functions along an edge. -/
theorem bump_at (b : Fin 1024) (s t : Fin 20) (h : s ≠ t) (q : Fin 16) :
    Value.res_main_v46 V (ix2 (edge b s t) q) = Spec.bump (pts (pos V) b) centers s t q := by
  clean_types
  pointwise [Value.res_main_v46, Value.res_main_v41]
  rw [dist_at V b s t h]
  rfl

/-- The features before the first layer. -/
theorem feat0_at (b : Fin 1024) (n : Fin 20) (ch : Fin 16) (k : Fin 3) :
    Value.res_main_v57 V (ix3 (Spec.node b n) ch k) = Spec.feat0 (pts (vec V) b) (fun q => wv V (ix1 q)) k n ch := by
  clean_types
  pointwise [Value.res_main_v57]
  rfl

/-- The radial functions along the edges, as an array. -/
abbrev rbf : FVec Ideal S389120x16 .f32 := Value.res_main_v46 V

/-- The messages along the edges, from the filters' weights and the features. -/
def messages (w1 w2 : FVec Ideal S16x16 .f32) (f : FVec Ideal S20480x16x3 .f32) : FVec Ideal S389120x16x3 .f32 :=
  addf (mulf (broadcastInDim S389120x16x3 ![0, 1, 2] bcast_S389120x16x1_S389120x16x3_0_1_2 (broadcastInDim S389120x16x1 ![0, 1] bcast_S389120x16_S389120x16x1_0_1 (Host.dotGeneral dot_S389120x16_S16x16_S389120x16_1_0_0_1_n_n none (rbf V) w1)))
      (Host.gather gather_S20480x16x3_S389120x1_S389120x16x3_12_0_n_n_0_1_1163 f (starts (Value.res_main_v10 V))))
    (mulf (broadcastInDim S389120x16x3 ![0, 1, 2] bcast_S389120x16x1_S389120x16x3_0_1_2 (broadcastInDim S389120x16x1 ![0, 1] bcast_S389120x16_S389120x16x1_0_1 (Host.dotGeneral dot_S389120x16_S16x16_S389120x16_1_0_0_1_n_n none (rbf V) w2)))
      (broadcastInDim S389120x16x3 ![0, 1, 2] bcast_S389120x1x3_S389120x16x3_0_1_2 (broadcastInDim S389120x1x3 ![0, 2] bcast_S389120x3_S389120x1x3_0_2 (Value.res_main_v37 V))))

/-- The messages added up at each node. -/
def gathered (w1 w2 : FVec Ideal S16x16 .f32) (f : FVec Ideal S20480x16x3 .f32) : FVec Ideal S20480x16x3 .f32 :=
  shapeCast _ (Host.scatterAdd scatter_S20480x48_S389120x1_S389120x48_1_0_0_1 (broadcastInDim S20480x48 ![] bcast_S_S20480x48 (constant S_ .f32 0x00000000#32)) (broadcastInDim S389120x1 ![0] bcast_S389120_S389120x1_0 (Value.res_main_v14 V)) (shapeCast _ (messages V w1 w2 f) shapeCasts_S389120x16x3_S389120x48)) shapeCasts_S20480x48_S20480x16x3

/-- A layer of the reference, from its weights and the features. -/
def layer (w1 w2 m2 m3 : FVec Ideal S16x16 .f32) (f : FVec Ideal S20480x16x3 .f32) : FVec Ideal S20480x16x3 .f32 :=
  addf (transpose S20480x16x3 [1, 0, 2] (Host.dotGeneral dot_S16x16_S20480x16x3_S16x20480x3_0_1_1_02_n_n none m2 (gathered V w1 w2 f)) transposes_S16x20480x3_S20480x16x3_1_0_2)
    (transpose S20480x16x3 [1, 0, 2] (Host.dotGeneral dot_S16x16_S20480x16x3_S16x20480x3_0_1_1_02_n_n none m3 f) transposes_S16x20480x3_S20480x16x3_1_0_2)

variable (w1 w2 m2 m3 : FVec Ideal S16x16 .f32) (f : FVec Ideal S20480x16x3 .f32) (b : Fin 1024) (X : Fin 3 → Fin 20 → Fin 16 → EReal)
  (hf : ∀ n ch k, f (ix3 (Spec.node b n) ch k) = X k n ch)

/-- The sixteen by sixteen numbers of an array. -/
abbrev mat (w : FVec Ideal S16x16 .f32) : Spec.Mat := fun q ch => w (ix2 q ch)

include hf in
/-- One message: along the edge from `s` to `t`. -/
theorem message_at (s t : Fin 20) (h : s ≠ t) (ch : Fin 16) (k : Fin 3) :
    messages V w1 w2 f (ix3 (edge b s t) ch k)
      = Spec.filt (pts (pos V) b) centers (mat w1) s t ch * X k s ch + Spec.filt (pts (pos V) b) centers (mat w2) s t ch * Spec.dir (pts (pos V) b) s t k := by
  pointwise [messages]
  rw [gather3 f _ _ ch k _ (starts_at _ _ _ (v10_at V (edge b s t))), esrc_edge b s t h, hf, dir_at V b s t h]
  simp only [bump_at V b s t h]
  rfl

include hf in
/-- The messages added up at a node. -/
theorem gathered_at (t : Fin 20) (ch : Fin 16) (k : Fin 3) :
    gathered V w1 w2 f (ix3 (Spec.node b t) ch k) = Spec.msg (pts (pos V) b) centers (mat w1) (mat w2) k (X k) t ch := by
  pointwise [gathered]
  rw [scatter_at _ _ _ (fun e => by pointwise; exact v14_at V e)]
  pointwise
  exact Finset.sum_congr rfl fun s hs => message_at V w1 w2 f b X hf s t (Finset.mem_filter.1 hs).2 ch k

include hf in
/-- A layer of the reference at a node is the layer of the node's graph. -/
theorem layer_at (n : Fin 20) (d : Fin 16) (k : Fin 3) :
    layer V w1 w2 m2 m3 f (ix3 (Spec.node b n) d k) = Spec.layer (pts (pos V) b) centers (mat w1) (mat w2) (mat m2) (mat m3) k (X k) n d := by
  pointwise [layer]
  simp only [gathered_at V w1 w2 f b X hf, hf]
  rfl

end Cert.Proof.Ref

end
-- ==== Proof.RefRun.lean ====
/- The reference's run: what its result holds when the program has ended, element by element. -/
module

public import proofs.«01_k».proof.Proof.Reference

@[expose] public section

set_option maxRecDepth 16384

noncomputable section

namespace Cert.Proof.Ref

open Idealize.ShloMosaic Idealize.SL.Sem Cert.ReferenceIdeal Cert.ReferenceIdeal.Gen

variable (V : Valuation τ sig (Elt Ideal)) (b : Fin 1024)

/-- One table of radial weights. -/
theorem wr_at (l j : Fin 3) (a c : ℕ) (ha : a = l.val) (hc : c = j.val) (h : S3x3x16x16.Slices ![a, c, 0, 0] S1x1x16x16) :
    mat (shapeCast _ (extractStridedSlice S1x1x16x16 ![a, c, 0, 0] (wr V) h) shapeCasts_S1x1x16x16_S16x16) = fun q ch => wr V (ix4 l j q ch) := by
  subst ha hc
  funext q ch
  pointwise

/-- One table of mixing weights. -/
theorem wm_at (l : Fin 3) (j : Fin 4) (a c : ℕ) (ha : a = l.val) (hc : c = j.val) (h : S3x4x16x16.Slices ![a, c, 0, 0] S1x1x16x16) :
    mat (shapeCast _ (extractStridedSlice S1x1x16x16 ![a, c, 0, 0] (wm V) h) shapeCasts_S1x1x16x16_S16x16) = fun q ch => wm V (ix4 l j q ch) := by
  subst ha hc
  funext q ch
  pointwise

/-- The radial weights of each layer and kind. -/
abbrev rad : Fin 3 → Fin 3 → Spec.Mat := fun l j q ch => wr V (ix4 l j q ch)
/-- The mixing weights of each layer and kind. -/
abbrev mix : Fin 3 → Fin 4 → Spec.Mat := fun l j q ch => wm V (ix4 l j q ch)
/-- The sixteen numbers of an array. -/
abbrev row (x : FVec Ideal S16 .f32) : Fin 16 → EReal := fun q => x (ix1 q)

/-- The features after the first layer. -/
theorem feat1_at (n : Fin 20) (ch : Fin 16) (k : Fin 3) : Value.res_main_v115 V (ix3 (Spec.node b n) ch k)
    = Spec.feat1 (pts (pos V) b) (pts (vec V) b) centers (rad V) (mix V) (row (wv V)) k n ch := by
  refine (layer_at V _ _ _ _ (Value.res_main_v57 V) b (fun k => Spec.feat0 (pts (vec V) b) (row (wv V)) k) (feat0_at V b) n ch k).trans ?_
  rw [wr_at V 0 1 0 1 rfl rfl, wr_at V 0 2 0 2 rfl rfl, wm_at V 0 2 0 2 rfl rfl, wm_at V 0 3 0 3 rfl rfl]
  rfl

/-- The features after the second layer. -/
theorem feat2_at (n : Fin 20) (ch : Fin 16) (k : Fin 3) : Value.res_main_v173 V (ix3 (Spec.node b n) ch k)
    = Spec.feat2 (pts (pos V) b) (pts (vec V) b) centers (rad V) (mix V) (row (wv V)) k n ch := by
  refine (layer_at V _ _ _ _ (Value.res_main_v115 V) b (Spec.feat1 (pts (pos V) b) (pts (vec V) b) centers (rad V) (mix V) (row (wv V))) (feat1_at V b) n ch k).trans ?_
  rw [wr_at V 1 1 1 1 rfl rfl, wr_at V 1 2 1 2 rfl rfl, wm_at V 1 2 1 2 rfl rfl, wm_at V 1 3 1 3 rfl rfl]
  rfl

/-- The features after the third layer, as the reference computes them. -/
def last : FVec Ideal S20480x16x3 .f32 :=
  layer V (shapeCast _ (extractStridedSlice S1x1x16x16 ![2, 1, 0, 0] (wr V) slices_S3x3x16x16_S1x1x16x16_2_1_0_0) shapeCasts_S1x1x16x16_S16x16)
    (shapeCast _ (extractStridedSlice S1x1x16x16 ![2, 2, 0, 0] (wr V) slices_S3x3x16x16_S1x1x16x16_2_2_0_0) shapeCasts_S1x1x16x16_S16x16)
    (shapeCast _ (extractStridedSlice S1x1x16x16 ![2, 2, 0, 0] (wm V) slices_S3x4x16x16_S1x1x16x16_2_2_0_0) shapeCasts_S1x1x16x16_S16x16)
    (shapeCast _ (extractStridedSlice S1x1x16x16 ![2, 3, 0, 0] (wm V) slices_S3x4x16x16_S1x1x16x16_2_3_0_0) shapeCasts_S1x1x16x16_S16x16)
    (Value.res_main_v173 V)

/-- The features after the third layer. -/
theorem feat3_at (n : Fin 20) (ch : Fin 16) (k : Fin 3) : last V (ix3 (Spec.node b n) ch k)
    = Spec.feat3 (pts (pos V) b) (pts (vec V) b) centers (rad V) (mix V) (row (wv V)) k n ch := by
  refine (layer_at V _ _ _ _ (Value.res_main_v173 V) b (Spec.feat2 (pts (pos V) b) (pts (vec V) b) centers (rad V) (mix V) (row (wv V))) (feat2_at V b) n ch k).trans ?_
  rw [wr_at V 2 1 2 1 rfl rfl, wr_at V 2 2 2 2 rfl rfl, wm_at V 2 2 2 2 rfl rfl, wm_at V 2 3 2 3 rfl rfl]
  rfl

/-- The reference's result, as it computes it. -/
def result : FVec Ideal S20480x3 .f32 :=
  shapeCast _ (addf (shapeCast _ (Host.dotGeneral dot_S20480x16x3_S16_S20480x3_1_0_02_n_n_n none (last V) (wo V)) shapeCasts_S20480x3_S1024x20x3)
    (shapeCast _ (pos V) shapeCasts_S20480x3_S1024x20x3)) shapeCasts_S1024x20x3_S20480x3

/-- The reference's result at node `n` of graph `b`. -/
theorem result_at (n : Fin 20) (k : Fin 3) : result V (ix2 (Spec.node b n) k)
    = Spec.whole (fun i k => pos V (ix2 i k)) (fun i k => vec V (ix2 i k)) centers (rad V) (mix V) (row (wv V)) (row (wo V)) b n k := by
  pointwise [result]
  simp only [feat3_at]
  rfl

/-- From any memory with zero counters the reference ends, its result holding `result` of its arguments. -/
theorem run_eq (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v236) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Value.run m ρ

end Cert.Proof.Ref

end
-- ==== Proof.Agree.lean ====
/- The two programs' results are the same: from equal arguments, equal element by element. -/
module

public import proofs.«01_k».proof.Proof.KArray
public import proofs.«01_k».proof.Proof.RefRun

@[expose] public section

set_option maxRecDepth 16384

noncomputable section

namespace Cert.Proof

open Idealize.ShloMosaic Idealize.SL.Sem

/-- The two programs hold the same sixteen centers. -/
theorem centers_eq : Launch.centers = Ref.centers := by
  have h : ∀ q : Fin 16, Cert.KernelIdeal.lit0 (Cert.KernelIdeal.S16.rowMajor (ix1 q)) = Cert.ReferenceIdeal.lit2 (Cert.ReferenceIdeal.S16.rowMajor (ix1 q)) := by
    decide +kernel
  funext q
  unfold Launch.centers Ref.centers
  rw [h]

/-- Every node is some graph's node. -/
theorem node_of (i : Fin 20480) : Spec.node ⟨i.val / 20, by omega⟩ ⟨i.val % 20, Nat.mod_lt _ (by decide)⟩ = i :=
  Fin.ext (Nat.div_add_mod i.val 20)

/-- From equal arguments the reference's result is the kernel's. -/
theorem results_eq (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (h0 : Ref.pos V = m ((c.tc : Thread Cert.KernelIdeal.nD Cert.KernelIdeal.τ).loc Cert.KernelIdeal.main_arg0))
    (h1 : Ref.vec V = m ((c.tc : Thread Cert.KernelIdeal.nD Cert.KernelIdeal.τ).loc Cert.KernelIdeal.main_arg1))
    (h3 : Ref.wr V = m ((c.tc : Thread Cert.KernelIdeal.nD Cert.KernelIdeal.τ).loc Cert.KernelIdeal.main_arg3))
    (h4 : Ref.wm V = m ((c.tc : Thread Cert.KernelIdeal.nD Cert.KernelIdeal.τ).loc Cert.KernelIdeal.main_arg4))
    (h6 : Ref.wv V = m ((c.tc : Thread Cert.KernelIdeal.nD Cert.KernelIdeal.τ).loc Cert.KernelIdeal.main_arg6))
    (h7 : Ref.wo V = m ((c.tc : Thread Cert.KernelIdeal.nD Cert.KernelIdeal.τ).loc Cert.KernelIdeal.main_arg7)) :
    Ref.result V = Launch.result m c := by
  funext i
  obtain ⟨r, k, rfl⟩ : ∃ (r : Fin 20480) (k : Fin 3), i = ix2 r k := ⟨i 0, i 1, by funext a; fin_cases a <;> rfl⟩
  have e := Ref.result_at V ⟨r.val / 20, by omega⟩ ⟨r.val % 20, Nat.mod_lt _ (by decide)⟩ k
  unfold Ref.rad Ref.mix at e
  rw [node_of r, h0, h1, h3, h4, h6, h7, ← centers_eq] at e
  exact e

end Cert.Proof

end
-- ==== Proof.lean ====
/- The claims put together: the three frames, the reading over the extended reals, and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and every semaphore counter at zero: it has no semaphore. -/
theorem reference_frame : Cert.quiescent_ReferenceIdeal := fun m g _ =>
  (θ_run _ _ _).mono (fun r h => ⟨fun c => (h c).2, sem_eq_zero_of_no_sems rfl r.2⟩) (Ref.run_eq m g)

/-- The kernel and the reference, over the extended reals, end with equal results. -/
theorem values : Cert.algebraic_KernelIdeal_ReferenceIdeal := fun m g m' g' _ hagree => by
  refine ⟨fun c => Launch.result m c, Launch.run m g, (θ_run _ _ _).mono (fun r h c => ⟨(h c).1.trans ?_, (h c).2⟩) (Ref.run_eq m' g')⟩
  obtain ⟨h0, h1, _, h3, h4, _, h6, h7⟩ := hagree c
  exact results_eq m c (StableHlo.launchContents m' c) h0 h1 h3 h4 h6 h7

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, values⟩

end Cert.Proof

end
